-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_finite [hPre_band_finite : Cert.Pre_band_finite.Facts] (m : (ℓ : Loc Cert.BandIdeal.nD Cert.BandIdeal.τ Cert.BandIdeal.sig) → Buf (Elt Ideal) ℓ) : Prop :=
  ∀ c : Dev Cert.BandIdeal.nD,
    (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_finite [hPre_band_finite : Cert.Pre_band_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))) = (fun _ => 1#1)

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_stick_finite [hPre_stick_finite : Cert.Pre_stick_finite.Facts] (m : (ℓ : Loc Cert.StickIdeal.nD Cert.StickIdeal.τ Cert.StickIdeal.sig) → Buf (Elt Ideal) ℓ) : Prop :=
  ∀ c : Dev Cert.StickIdeal.nD,
    (Cert.Pre_stick_finite.fn (F := Ideal) (m ((c.tc : Thread Cert.StickIdeal.nD Cert.StickIdeal.τ).loc Cert.StickIdeal.main_arg0))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_band_finite [hBandIdeal : Cert.BandIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_band_finite [hBandRefIdeal : Cert.BandRefIdeal.Facts] [hPre_band_finite : Cert.Pre_band_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickIdeal_pre_stick_finite [hStickIdeal : Cert.StickIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_stick_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Band_BandIdeal : Prop :=
  True

def algebraic_BandIdeal_BandRefIdeal_pre_band_finite [hBandIdeal : Cert.BandIdeal.Facts] [hBandRefIdeal : Cert.BandRefIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v33)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v33) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v78) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Stick_StickIdeal : Prop :=
  True

def algebraic_StickIdeal_StickRefIdeal_pre_stick_finite [hStickIdeal : Cert.StickIdeal.Facts] [hStickRefIdeal : Cert.StickRefIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_stick_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v28) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0))

def Claim : Prop :=
  ∃ (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hProj : Cert.Proj.Facts) (hProjIdeal : Cert.ProjIdeal.Facts) (hProjRefIdeal : Cert.ProjRefIdeal.Facts) (hBand : Cert.Band.Facts) (hBandIdeal : Cert.BandIdeal.Facts) (hBandRefIdeal : Cert.BandRefIdeal.Facts) (hStick : Cert.Stick.Facts) (hStickIdeal : Cert.StickIdeal.Facts) (hStickRefIdeal : Cert.StickRefIdeal.Facts) (hPre_band_finite : Cert.Pre_band_finite.Facts) (hPre_stick_finite : Cert.Pre_stick_finite.Facts),
    quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Proj (hProj := hProj)
    ∧ quiescent_ProjIdeal (hProjIdeal := hProjIdeal)
    ∧ quiescent_ProjRefIdeal (hProjRefIdeal := hProjRefIdeal)
    ∧ quiescent_Band (hBand := hBand)
    ∧ quiescent_BandIdeal (hBandIdeal := hBandIdeal)
    ∧ quiescent_BandIdeal_pre_band_finite (hBandIdeal := hBandIdeal) (hPre_band_finite := hPre_band_finite)
    ∧ quiescent_BandRefIdeal (hBandRefIdeal := hBandRefIdeal)
    ∧ quiescent_BandRefIdeal_pre_band_finite (hBandRefIdeal := hBandRefIdeal) (hPre_band_finite := hPre_band_finite)
    ∧ quiescent_Stick (hStick := hStick)
    ∧ quiescent_StickIdeal (hStickIdeal := hStickIdeal)
    ∧ quiescent_StickIdeal_pre_stick_finite (hStickIdeal := hStickIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Proj_ProjIdeal
    ∧ algebraic_ProjIdeal_ProjRefIdeal (hProjIdeal := hProjIdeal) (hProjRefIdeal := hProjRefIdeal)
    ∧ preserves_Band_BandIdeal
    ∧ algebraic_BandIdeal_BandRefIdeal_pre_band_finite (hBandIdeal := hBandIdeal) (hBandRefIdeal := hBandRefIdeal) (hPre_band_finite := hPre_band_finite)
    ∧ preserves_Stick_StickIdeal
    ∧ algebraic_StickIdeal_StickRefIdeal_pre_stick_finite (hStickIdeal := hStickIdeal) (hStickRefIdeal := hStickRefIdeal) (hPre_stick_finite := hPre_stick_finite)
-- ==== Pre_band_finite.lean ====
abbrev S16x2048x3072 : Shape := ⟨3, ![16, 2048, 3072]⟩
abbrev S257x16 : Shape := ⟨2, ![257, 16]⟩
abbrev S16x2048x2048 : Shape := ⟨3, ![16, 2048, 2048]⟩
abbrev S_ : Shape := ⟨0, ![]⟩

class Facts : Prop where
  slices_S16x2048x3072_S16x2048x2048_0_0_0 : S16x2048x3072.Slices ![0, 0, 0] S16x2048x2048
  bitsLt_bf16_f32 : FTy.bits .bf16 < FTy.bits .f32
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S257x16 : S_.BroadcastsInDim S257x16 (![] : Fin 0 → Fin S257x16.rank)
  reducesTo_S257x16_S_d0_1 : S257x16.ReducesTo [0, 1] S_

variable [Facts]

def fn {F : FTy → Type} [FloatOps F] (main_arg0 : FVec F S16x2048x3072 .bf16) (main_arg1 : FVec F S257x16 .f32) : IVec S_ 1 :=
  let main_v0 : FVec F S16x2048x2048 .bf16 := (extractStridedSlice S16x2048x2048 ![0, 0, 0] · slices_S16x2048x3072_S16x2048x2048_0_0_0) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_c : IVec S_ 1 := constantI S_ 1 1#1
  let main_v5 : IVec S_ 1 := (fun x v => Host.reduce IntOp.andi x v reducesTo_S16x2048x2048_S_d0_1_2 h_S_) main_v4 main_c
  let main_v6 : FVec F S257x16 .f32 := Host.absf main_arg1
  let main_cst_0 : FVec F S_ .f32 := constant S_ .f32 0x7F800000#32
  let main_v7 : FVec F S257x16 .f32 := broadcastInDim S257x16 ![] bcast_S_S257x16 main_cst_0
  let main_v8 : IVec S257x16 1 := cmpf .olt main_v6 main_v7
  let main_c_1 : IVec S_ 1 := constantI S_ 1 1#1
  let main_v9 : IVec S_ 1 := (fun x v => Host.reduce IntOp.andi x v reducesTo_S257x16_S_d0_1 h_S_) main_v8 main_c_1
  let main_v10 : IVec S_ 1 := andi main_v5 main_v9
  main_v10
-- ==== Pre_stick_finite.lean ====
abbrev S16x2048x3072 : Shape := ⟨3, ![16, 2048, 3072]⟩
abbrev S16x2048x2048 : Shape := ⟨3, ![16, 2048, 2048]⟩
abbrev S_ : Shape := ⟨0, ![]⟩

class Facts : Prop where
  slices_S16x2048x3072_S16x2048x2048_0_0_0 : S16x2048x3072.Slices ![0, 0, 0] S16x2048x2048
  bitsLt_bf16_f32 : FTy.bits .bf16 < FTy.bits .f32
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x3072 .bf16) : IVec S_ 1 :=
  let main_v0 : FVec F S16x2048x2048 .bf16 := (extractStridedSlice S16x2048x2048 ![0, 0, 0] · slices_S16x2048x3072_S16x2048x2048_0_0_0) main_arg0
  let main_v1 : FVec F S16x2048x2048 .f32 := (extf .f32 · bitsLt_bf16_f32) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_c : IVec S_ 1 := constantI S_ 1 1#1
  let main_v5 : IVec S_ 1 := (fun x v => Host.reduce IntOp.andi x v reducesTo_S16x2048x2048_S_d0_1_2 h_S_) main_v4 main_c
  main_v5
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Qkv.lean ====
abbrev S32768x1024 : Shape := ⟨2, ![32768, 1024]⟩
abbrev S1024x3072 : Shape := ⟨2, ![1024, 3072]⟩
abbrev S_ : Shape := ⟨0, ![]⟩
abbrev S1024 : Shape := ⟨1, ![1024]⟩
abbrev S2048 : Shape := ⟨1, ![2048]⟩
abbrev S3072 : Shape := ⟨1, ![3072]⟩
abbrev S1x3072 : Shape := ⟨2, ![1, 3072]⟩
abbrev S32768x3072 : Shape := ⟨2, ![32768, 3072]⟩
abbrev S512x1024 : Shape := ⟨2, ![512, 1024]⟩
abbrev S512x3072 : Shape := ⟨2, ![512, 3072]⟩

abbrev nBuf : Space → Nat
  | .hbm => 12
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S2048, .f32⟩
  | .hbm, ⟨6, _⟩ => ⟨S3072, .f32⟩
  | .hbm, ⟨7, _⟩ => ⟨S1x3072, .f32⟩
  | .hbm, ⟨8, _⟩ => ⟨S1024x3072, .f32⟩
  | .hbm, ⟨9, _⟩ => ⟨S1024x3072, .f32⟩
  | .hbm, ⟨10, _⟩ => ⟨S1024x3072, .bf16⟩
  | .hbm, ⟨11, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvRefIdeal.lean ====
abbrev S32768x1024 : Shape := ⟨2, ![32768, 1024]⟩
abbrev S1024x3072 : Shape := ⟨2, ![1024, 3072]⟩
abbrev S32768x3072 : Shape := ⟨2, ![32768, 3072]⟩
abbrev S32768x2048 : Shape := ⟨2, ![32768, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .f32⟩
  | .hbm, ⟨3, _⟩ => ⟨S32768x1024, .f32⟩
  | .hbm, ⟨4, _⟩ => ⟨S32768x2048, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x3072, .f32⟩
  | .hbm, ⟨9, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Band.lean ====
abbrev S16x2048x3072 : Shape := ⟨3, ![16, 2048, 3072]⟩
abbrev S257x16 : Shape := ⟨2, ![257, 16]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S_ : Shape := ⟨0, ![]⟩
abbrev S128x640x1 : Shape := ⟨3, ![128, 640, 1]⟩
abbrev S128x640x16 : Shape := ⟨3, ![128, 640, 16]⟩
abbrev S16x128x640 : Shape := ⟨3, ![16, 128, 640]⟩
abbrev S1x128x640 : Shape := ⟨3, ![1, 128, 640]⟩
abbrev S16x2048x1024 : Shape := ⟨3, ![16, 2048, 1024]⟩
abbrev S1x2048x128 : Shape := ⟨3, ![1, 2048, 128]⟩
abbrev S2x128x640 : Shape := ⟨3, ![2, 128, 640]⟩
abbrev S2560x128 : Shape := ⟨2, ![2560, 128]⟩
abbrev S512x128 : Shape := ⟨2, ![512, 128]⟩
abbrev S2048x128 : Shape := ⟨2, ![2048, 128]⟩
abbrev S1x128 : Shape := ⟨2, ![1, 128]⟩
abbrev S1x128x128 : Shape := ⟨3, ![1, 128, 128]⟩
abbrev S128x128 : Shape := ⟨2, ![128, 128]⟩
abbrev S640x128 : Shape := ⟨2, ![640, 128]⟩

abbrev nBuf : Space → Nat
  | .hbm => 86
  | .vmem => 12
  | .smem => 0
  | _ => 0

abbrev bufTy : (tb : Table) → Fin (tcTables nBuf tb) → BufTy
  | .hbm, ⟨0, _⟩ => ⟨S16x2048x3072, .bf16⟩
  | .hbm, ⟨1, _⟩ => ⟨S257x16, .f32⟩
  | .hbm, ⟨2, _⟩ => ⟨S128, .i32⟩
  | .hbm, ⟨3, _⟩ => ⟨S128x1, .i32⟩
  | .hbm, ⟨4, _⟩ => ⟨S640, .i32⟩
  | .hbm, ⟨5, _⟩ => ⟨S1x640, .i32⟩
  | .hbm, ⟨6, _⟩ => ⟨S128x640, .i32⟩
  | .hbm, ⟨7, _⟩ => ⟨S128x640, .i32⟩
  | .hbm, ⟨8, _⟩ => ⟨S128x640, .i32⟩
  | .hbm, ⟨9, _⟩ => ⟨S_, .i32⟩
  | .hbm, ⟨10, _⟩ => ⟨S128x640, .i32⟩
  | .hbm, ⟨11, _⟩ => ⟨S128x640, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S128x640, .i32⟩
  | .hbm, ⟨16, _⟩ => ⟨S128x640, .i32⟩
  | .hbm, ⟨17, _⟩ => ⟨S_, .i32⟩
  | .hbm, ⟨18, _⟩ => ⟨S128x640, .i32⟩
  | .hbm, ⟨19, _⟩ => ⟨S128x640, .i32⟩
  | .hbm, ⟨20, _⟩ => ⟨S_, .i32⟩
  | .hbm, ⟨21, _⟩ => ⟨S128x640, .i32⟩
  | .hbm, ⟨22, _⟩ => ⟨S128x640, .i32⟩
  | .hbm, ⟨23, _⟩ => ⟨S_, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i1⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x1, .i32⟩
  | .hbm, ⟨41, _⟩ => ⟨S_, .i32⟩
  | .hbm, ⟨42, _⟩ => ⟨S_, .i32⟩
  | .hbm, ⟨43, _⟩ => ⟨S1x640, .i32⟩
  | .hbm, ⟨44, _⟩ => ⟨S1x640, .i32⟩
  | .hbm, ⟨45, _⟩ => ⟨S1x640, .i32⟩
  | .hbm, ⟨46, _⟩ => ⟨S_, .i32⟩
  | .hbm, ⟨47, _⟩ => ⟨S1x640, .i32⟩
  | .hbm, ⟨48, _⟩ => ⟨S1x640, .i1⟩
  | .hbm, ⟨49, _⟩ => ⟨S1x640, .i32⟩
  | .hbm, ⟨50, _⟩ => ⟨S1x640, .i32⟩
  | .hbm, ⟨51, _⟩ => ⟨S_, .i32⟩
  | .hbm, ⟨52, _⟩ => ⟨S1x640, .i32⟩
  | .hbm, ⟨53, _⟩ => ⟨S1x640, .i1⟩
  | .hbm, ⟨54, _⟩ => ⟨S1x640, .i1⟩
  | .hbm, ⟨55, _⟩ => ⟨S_, .i32⟩
  | .hbm, ⟨56, _⟩ => ⟨S1x640, .i32⟩
  | .hbm, ⟨57, _⟩ => ⟨S1x640, .i32⟩
  | .hbm, ⟨58, _⟩ => ⟨S1x640, .i32⟩
  | .hbm, ⟨59, _⟩ => ⟨S128x640, .i32⟩
  | .hbm, ⟨60, _⟩ => ⟨S128x640, .i32⟩
  | .hbm, ⟨61, _⟩ => ⟨S128x640, .i1⟩
  | .hbm, ⟨62, _⟩ => ⟨S_, .i32⟩
  | .hbm, ⟨63, _⟩ => ⟨S128x1, .i32⟩
  | .hbm, ⟨64, _⟩ => ⟨S128x1, .i32⟩
  | .hbm, ⟨65, _⟩ => ⟨S128x640, .i32⟩
  | .hbm, ⟨66, _⟩ => ⟨S128x640, .i32⟩
  | .hbm, ⟨67, _⟩ => ⟨S128x640, .i1⟩
  | .hbm, ⟨68, _⟩ => ⟨S128x640, .i1⟩
  | .hbm, ⟨69, _⟩ => ⟨S_, .i32⟩
  | .hbm, ⟨70, _⟩ => ⟨S128x640, .i32⟩
  | .hbm, ⟨71, _⟩ => ⟨S128x640, .i1⟩
  | .hbm, ⟨72, _⟩ => ⟨S_, .i32⟩
  | .hbm, ⟨73, _⟩ => ⟨S128x640, .i32⟩
  | .hbm, ⟨74, _⟩ => ⟨S128x640, .i32⟩
  | .hbm, ⟨75, _⟩ => ⟨S128x640, .i32⟩
  | .hbm, ⟨76, _⟩ => ⟨S128x640x1, .i32⟩
  | .hbm, ⟨77, _⟩ => ⟨S128x640x16, .f32⟩
  | .hbm, ⟨78, _⟩ => ⟨S16x128x640, .f32⟩
  | .hbm, ⟨79, _⟩ => ⟨S1x128x640, .i1⟩
  | .hbm, ⟨80, _⟩ => ⟨S_, .f32⟩
  | .hbm, ⟨81, _⟩ => ⟨S_, .f32⟩
  | .hbm, ⟨82, _⟩ => ⟨S16x128x640, .i1⟩
  | .hbm, ⟨83, _⟩ => ⟨S16x128x640, .f32⟩
  | .hbm, ⟨84, _⟩ => ⟨S16x128x640, .f32⟩
  | .hbm, ⟨85, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2x128x640, .f32⟩
  | .local _ .vmem, ⟨7, _⟩ => ⟨S2x128x640, .f32⟩
  | .local _ .vmem, ⟨8, _⟩ => ⟨S1x2048x128, .bf16⟩
  | .local _ .vmem, ⟨9, _⟩ => ⟨S1x2048x128, .bf16⟩
  | .local _ .vmem, ⟨10, _⟩ => ⟨S2560x128, .bf16⟩
  | .local _ .vmem, ⟨11, _⟩ => ⟨S2560x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v12 : Ref sig .tc := ⟨.hbm, 40, rfl⟩
abbrev main_c_4 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_c : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_0 : Ref sig .tc := ⟨.hbm, 55, rfl⟩
abbrev main_call2_v12 : Ref sig .tc := ⟨.hbm, 56, rfl⟩
abbrev main_call2_v13 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_c_5 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_6 : Ref sig .tc := ⟨.hbm, 69, rfl⟩
abbrev main_v23 : Ref sig .tc := ⟨.hbm, 70, rfl⟩
abbrev main_v24 : Ref sig .tc := ⟨.hbm, 71, rfl⟩
abbrev main_c_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v32 : Ref sig .tc := ⟨.hbm, 84, rfl⟩
abbrev main_v33 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v29 : BitVec 32 := Scalar.muli arg9 c128_i32
  v29
def k0_off1 (k0_t1 : Fin k0_t1_loop.trips) : Fin 3 → Nat :=
  let c0_14 : Index := 0#32
  let c0_i32 : BitVec 32 := 0#32
  let c1_i32 : BitVec 32 := 1#32
  let arg9 : BitVec 32 := Scf.iv c0_i32 c1_i32 k0_t1
  let c128_i32 : BitVec 32 := 128#32
  let v29 : BitVec 32 := Scalar.muli arg9 c128_i32
  let v30 : BitVec 32 := v29
  let v31 : Index := Scalar.indexCast v30
  let c0_15 : Index := 0#32
  ![0, v31.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v29 : BitVec 32 := Scalar.muli arg9 c128_i32
  let v30 : BitVec 32 := v29
  let v34 : Index := Scalar.indexCast v30
  let c0_16 : Index := 0#32
  ![v34.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandRefIdeal.lean ====
abbrev S16x2048x3072 : Shape := ⟨3, ![16, 2048, 3072]⟩
abbrev S257x16 : Shape := ⟨2, ![257, 16]⟩
abbrev S16x2048x3x16x64 : Shape := ⟨5, ![16, 2048, 3, 16, 64]⟩
abbrev S16x2048x1x16x64 : Shape := ⟨5, ![16, 2048, 1, 16, 64]⟩
abbrev S16x2048x16x64 : Shape := ⟨4, ![16, 2048, 16, 64]⟩
abbrev S_ : Shape := ⟨0, ![]⟩
abbrev S16x2560x16x64 : Shape := ⟨4, ![16, 2560, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S32 : Shape := ⟨1, ![32]⟩
abbrev S32x1 : Shape := ⟨2, ![32, 1]⟩
abbrev S32x576 : Shape := ⟨2, ![32, 576]⟩
abbrev S16x32x64x16x64 : Shape := ⟨5, ![16, 32, 64, 16, 64]⟩
abbrev S32x576x1 : Shape := ⟨3, ![32, 576, 1]⟩
abbrev S16x32x576x16x64 : Shape := ⟨5, ![16, 32, 576, 16, 64]⟩
abbrev S16x32x16x64x576 : Shape := ⟨5, ![16, 32, 16, 64, 576]⟩
abbrev S1x1x16x64x576 : Shape := ⟨5, ![1, 1, 16, 64, 576]⟩
abbrev S1x32x1x1x576 : Shape := ⟨5, ![1, 32, 1, 1, 576]⟩
abbrev S16x32x16x64 : Shape := ⟨4, ![16, 32, 16, 64]⟩
abbrev S16x32x16x64x1 : Shape := ⟨5, ![16, 32, 16, 64, 1]⟩
abbrev S16x32x16x64x64 : Shape := ⟨5, ![16, 32, 16, 64, 64]⟩
abbrev S16x2048x1024 : Shape := ⟨3, ![16, 2048, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S257x16, .f32⟩
  | .hbm, ⟨2, _⟩ => ⟨S16x2048x3072, .f32⟩
  | .hbm, ⟨3, _⟩ => ⟨S16x2048x3x16x64, .f32⟩
  | .hbm, ⟨4, _⟩ => ⟨S16x2048x1x16x64, .f32⟩
  | .hbm, ⟨5, _⟩ => ⟨S16x2048x16x64, .f32⟩
  | .hbm, ⟨6, _⟩ => ⟨S16x2048x1x16x64, .f32⟩
  | .hbm, ⟨7, _⟩ => ⟨S16x2048x16x64, .f32⟩
  | .hbm, ⟨8, _⟩ => ⟨S16x2048x1x16x64, .f32⟩
  | .hbm, ⟨9, _⟩ => ⟨S16x2048x16x64, .f32⟩
  | .hbm, ⟨10, _⟩ => ⟨S_, .i32⟩
  | .hbm, ⟨11, _⟩ => ⟨S_, .f32⟩
  | .hbm, ⟨12, _⟩ => ⟨S16x2560x16x64, .f32⟩
  | .hbm, ⟨13, _⟩ => ⟨S_, .i32⟩
  | .hbm, ⟨14, _⟩ => ⟨S_, .f32⟩
  | .hbm, ⟨15, _⟩ => ⟨S16x2560x16x64, .f32⟩
  | .hbm, ⟨16, _⟩ => ⟨S64, .i32⟩
  | .hbm, ⟨17, _⟩ => ⟨S64x1, .i32⟩
  | .hbm, ⟨18, _⟩ => ⟨S576, .i32⟩
  | .hbm, ⟨19, _⟩ => ⟨S1x576, .i32⟩
  | .hbm, ⟨20, _⟩ => ⟨S64x576, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i1⟩
  | .hbm, ⟨40, _⟩ => ⟨S_, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S64x576x1, .i32⟩
  | .hbm, ⟨45, _⟩ => ⟨S64x576x16, .f32⟩
  | .hbm, ⟨46, _⟩ => ⟨S16x64x576, .f32⟩
  | .hbm, ⟨47, _⟩ => ⟨S32, .i32⟩
  | .hbm, ⟨48, _⟩ => ⟨S32x1, .i32⟩
  | .hbm, ⟨49, _⟩ => ⟨S_, .i32⟩
  | .hbm, ⟨50, _⟩ => ⟨S32x1, .i32⟩
  | .hbm, ⟨51, _⟩ => ⟨S32x1, .i32⟩
  | .hbm, ⟨52, _⟩ => ⟨S576, .i32⟩
  | .hbm, ⟨53, _⟩ => ⟨S1x576, .i32⟩
  | .hbm, ⟨54, _⟩ => ⟨S32x576, .i32⟩
  | .hbm, ⟨55, _⟩ => ⟨S32x576, .i32⟩
  | .hbm, ⟨56, _⟩ => ⟨S32x576, .i32⟩
  | .hbm, ⟨57, _⟩ => ⟨S16x32x64x16x64, .f32⟩
  | .hbm, ⟨58, _⟩ => ⟨S_, .i32⟩
  | .hbm, ⟨59, _⟩ => ⟨S32x576, .i32⟩
  | .hbm, ⟨60, _⟩ => ⟨S32x576, .i1⟩
  | .hbm, ⟨61, _⟩ => ⟨S_, .i32⟩
  | .hbm, ⟨62, _⟩ => ⟨S32x576, .i32⟩
  | .hbm, ⟨63, _⟩ => ⟨S32x576, .i32⟩
  | .hbm, ⟨64, _⟩ => ⟨S32x576, .i32⟩
  | .hbm, ⟨65, _⟩ => ⟨S32x576x1, .i32⟩
  | .hbm, ⟨66, _⟩ => ⟨S16x32x576x16x64, .f32⟩
  | .hbm, ⟨67, _⟩ => ⟨S_, .i32⟩
  | .hbm, ⟨68, _⟩ => ⟨S32x576, .i32⟩
  | .hbm, ⟨69, _⟩ => ⟨S32x576, .i1⟩
  | .hbm, ⟨70, _⟩ => ⟨S_, .i32⟩
  | .hbm, ⟨71, _⟩ => ⟨S32x576, .i32⟩
  | .hbm, ⟨72, _⟩ => ⟨S32x576, .i32⟩
  | .hbm, ⟨73, _⟩ => ⟨S32x576, .i32⟩
  | .hbm, ⟨74, _⟩ => ⟨S32x576x1, .i32⟩
  | .hbm, ⟨75, _⟩ => ⟨S16x32x576x16x64, .f32⟩
  | .hbm, ⟨76, _⟩ => ⟨S16x32x16x64x576, .f32⟩
  | .hbm, ⟨77, _⟩ => ⟨S1x1x16x64x576, .f32⟩
  | .hbm, ⟨78, _⟩ => ⟨S16x32x16x64x576, .f32⟩
  | .hbm, ⟨79, _⟩ => ⟨S16x32x16x64x576, .f32⟩
  | .hbm, ⟨80, _⟩ => ⟨S_, .i32⟩
  | .hbm, ⟨81, _⟩ => ⟨S32x576, .i32⟩
  | .hbm, ⟨82, _⟩ => ⟨S32x576, .i32⟩
  | .hbm, ⟨83, _⟩ => ⟨S_, .i32⟩
  | .hbm, ⟨84, _⟩ => ⟨S32x576, .i32⟩
  | .hbm, ⟨85, _⟩ => ⟨S32x576, .i1⟩
  | .hbm, ⟨86, _⟩ => ⟨S1x32x1x1x576, .i1⟩
  | .hbm, ⟨87, _⟩ => ⟨S_, .f32⟩
  | .hbm, ⟨88, _⟩ => ⟨S_, .f32⟩
  | .hbm, ⟨89, _⟩ => ⟨S16x32x16x64x576, .i1⟩
  | .hbm, ⟨90, _⟩ => ⟨S16x32x16x64x576, .f32⟩
  | .hbm, ⟨91, _⟩ => ⟨S16x32x16x64x576, .f32⟩
  | .hbm, ⟨92, _⟩ => ⟨S_, .f32⟩
  | .hbm, ⟨93, _⟩ => ⟨S16x32x16x64, .f32⟩
  | .hbm, ⟨94, _⟩ => ⟨S_, .f32⟩
  | .hbm, ⟨95, _⟩ => ⟨S16x32x16x64, .f32⟩
  | .hbm, ⟨96, _⟩ => ⟨S16x32x16x64, .f32⟩
  | .hbm, ⟨97, _⟩ => ⟨S16x32x16x64x1, .f32⟩
  | .hbm, ⟨98, _⟩ => ⟨S16x32x16x64x576, .f32⟩
  | .hbm, ⟨99, _⟩ => ⟨S16x32x16x64x576, .f32⟩
  | .hbm, ⟨100, _⟩ => ⟨S16x32x16x64x576, .f32⟩
  | .hbm, ⟨101, _⟩ => ⟨S_, .f32⟩
  | .hbm, ⟨102, _⟩ => ⟨S16x32x16x64, .f32⟩
  | .hbm, ⟨103, _⟩ => ⟨S16x32x16x64x1, .f32⟩
  | .hbm, ⟨104, _⟩ => ⟨S16x32x16x64x576, .f32⟩
  | .hbm, ⟨105, _⟩ => ⟨S16x32x16x64x576, .f32⟩
  | .hbm, ⟨106, _⟩ => ⟨S16x32x16x64x64, .f32⟩
  | .hbm, ⟨107, _⟩ => ⟨S16x32x64x16x64, .f32⟩
  | .hbm, ⟨108, _⟩ => ⟨S16x2048x1024, .f32⟩
  | .hbm, ⟨109, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Stick.lean ====
abbrev S16x2048x3072 : Shape := ⟨3, ![16, 2048, 3072]⟩
abbrev S16x2048x1024 : Shape := ⟨3, ![16, 2048, 1024]⟩
abbrev S1x2048x128 : Shape := ⟨3, ![1, 2048, 128]⟩
abbrev S1x128 : Shape := ⟨2, ![1, 128]⟩
abbrev S256x256 : Shape := ⟨2, ![256, 256]⟩
abbrev S128x256 : Shape := ⟨2, ![128, 256]⟩
abbrev S1x128x128 : Shape := ⟨3, ![1, 128, 128]⟩
abbrev S128x128 : Shape := ⟨2, ![128, 128]⟩
abbrev S128x1 : Shape := ⟨2, ![128, 1]⟩
abbrev S1x256x128 : Shape := ⟨3, ![1, 256, 128]⟩
abbrev S256x128 : Shape := ⟨2, ![256, 128]⟩
abbrev S128 : Shape := ⟨1, ![128]⟩

abbrev nBuf : Space → Nat
  | .hbm => 2
  | .vmem => 8
  | .smem => 0
  | _ => 0

abbrev bufTy : (tb : Table) → Fin (tcTables nBuf tb) → BufTy
  | .hbm, ⟨0, _⟩ => ⟨S16x2048x3072, .bf16⟩
  | .hbm, ⟨1, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v19 : BitVec 32 := Scalar.muli arg6 c128_i32
  v19
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c128_i32 : BitVec 32 := 128#32
  let v19 : BitVec 32 := Scalar.muli arg6 c128_i32
  let v20 : BitVec 32 := v19
  let v21 : Index := Scalar.indexCast v20
  let c0_1 : Index := 0#32
  ![0, v21.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c256_i32 : BitVec 32 := 256#32
  let v41 : BitVec 32 := Scalar.muli v40 c256_i32
  v41
def k0_off2 (k0_t1 : Fin k0_t1_loop.trips) : Fin 3 → Nat :=
  let c0_9 : Index := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c256_i32 : BitVec 32 := 256#32
  let v41 : BitVec 32 := Scalar.muli v40 c256_i32
  let v42 : BitVec 32 := v41
  let v50 : Index := Scalar.indexCast v42
  let c0_10 : Index := 0#32
  ![0, v50.toNat, 0]
@[reducible] def k0_t2_loop (k0_t1 : Fin k0_t1_loop.trips) : Scf.Loop 32 :=
  let c0_i32_25 : BitVec 32 := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let v92 : BitVec 32 := Scalar.subi v40 c0_i32_25
  let c1_i32_26 : BitVec 32 := 1#32
  let v94 : BitVec 32 := Scalar.divsi v92 c1_i32_26
  let v95 : BitVec 32 := Scalar.muli v94 c1_i32_26
  let v96 : BitVec 32 := Scalar.addi c0_i32_25 v95
  let c1_i32_27 : BitVec 32 := 1#32
  ⟨c0_i32_25, v96, c1_i32_27⟩
def k0_mult3 (k0_t1 : Fin k0_t1_loop.trips) (k0_t2 : Fin (k0_t2_loop k0_t1).trips) : BitVec 32 :=
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_25 : BitVec 32 := 0#32
  let c1_i32_27 : BitVec 32 := 1#32
  let arg7 : BitVec 32 := Scf.iv c0_i32_25 c1_i32_27 k0_t2
  let v160 : BitVec 32 := Scalar.subi v159 arg7
  let c256_i32_53 : BitVec 32 := 256#32
  let v161 : BitVec 32 := Scalar.muli v160 c256_i32_53
  v161
def k0_off3 (k0_t1 : Fin k0_t1_loop.trips) (k0_t2 : Fin (k0_t2_loop k0_t1).trips) : Fin 3 → Nat :=
  let c0_54 : Index := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_25 : BitVec 32 := 0#32
  let c1_i32_27 : BitVec 32 := 1#32
  let arg7 : BitVec 32 := Scf.iv c0_i32_25 c1_i32_27 k0_t2
  let v160 : BitVec 32 := Scalar.subi v159 arg7
  let c256_i32_53 : BitVec 32 := 256#32
  let v161 : BitVec 32 := Scalar.muli v160 c256_i32_53
  let v162 : BitVec 32 := v161
  let v163 : Index := Scalar.indexCast v162
  let c0_55 : Index := 0#32
  ![0, v163.toNat, 0]
@[reducible] def k0_t3_loop (k0_t1 : Fin k0_t1_loop.trips) : Scf.Loop 32 :=
  let c0_i32_25 : BitVec 32 := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let v92 : BitVec 32 := Scalar.subi v40 c0_i32_25
  let c1_i32_26 : BitVec 32 := 1#32
  let v94 : BitVec 32 := Scalar.divsi v92 c1_i32_26
  let v95 : BitVec 32 := Scalar.muli v94 c1_i32_26
  let v96 : BitVec 32 := Scalar.addi c0_i32_25 v95
  let v93 : BitVec 32 := Scalar.addi c0_i32_25 v92
  let c1_i32_28 : BitVec 32 := 1#32
  ⟨v96, v93, c1_i32_28⟩
def k0_mult4 (k0_t1 : Fin k0_t1_loop.trips) (k0_t3 : Fin (k0_t3_loop k0_t1).trips) : BitVec 32 :=
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_25 : BitVec 32 := 0#32
  let v92 : BitVec 32 := Scalar.subi v40 c0_i32_25
  let c1_i32_26 : BitVec 32 := 1#32
  let v94 : BitVec 32 := Scalar.divsi v92 c1_i32_26
  let v95 : BitVec 32 := Scalar.muli v94 c1_i32_26
  let v96 : BitVec 32 := Scalar.addi c0_i32_25 v95
  let c1_i32_28 : BitVec 32 := 1#32
  let arg7 : BitVec 32 := Scf.iv v96 c1_i32_28 k0_t3
  let v160 : BitVec 32 := Scalar.subi v159 arg7
  let c256_i32_53 : BitVec 32 := 256#32
  let v161 : BitVec 32 := Scalar.muli v160 c256_i32_53
  v161
def k0_off4 (k0_t1 : Fin k0_t1_loop.trips) (k0_t3 : Fin (k0_t3_loop k0_t1).trips) : Fin 3 → Nat :=
  let c0_54 : Index := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_25 : BitVec 32 := 0#32
  let v92 : BitVec 32 := Scalar.subi v40 c0_i32_25
  let c1_i32_26 : BitVec 32 := 1#32
  let v94 : BitVec 32 := Scalar.divsi v92 c1_i32_26
  let v95 : BitVec 32 := Scalar.muli v94 c1_i32_26
  let v96 : BitVec 32 := Scalar.addi c0_i32_25 v95
  let c1_i32_28 : BitVec 32 := 1#32
  let arg7 : BitVec 32 := Scf.iv v96 c1_i32_28 k0_t3
  let v160 : BitVec 32 := Scalar.subi v159 arg7
  let c256_i32_53 : BitVec 32 := 256#32
  let v161 : BitVec 32 := Scalar.muli v160 c256_i32_53
  let v162 : BitVec 32 := v161
  let v163 : Index := Scalar.indexCast v162
  let c0_55 : Index := 0#32
  ![0, v163.toNat, 0]
@[reducible] def k0_t4_loop (k0_t1 : Fin k0_t1_loop.trips) : Scf.Loop 32 :=
  let c0_i32_46 : BitVec 32 := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let v144 : BitVec 32 := Scalar.subi v40 c0_i32_46
  let c1_i32_47 : BitVec 32 := 1#32
  let v146 : BitVec 32 := Scalar.divsi v144 c1_i32_47
  let v147 : BitVec 32 := Scalar.muli v146 c1_i32_47
  let v148 : BitVec 32 := Scalar.addi c0_i32_46 v147
  let c1_i32_48 : BitVec 32 := 1#32
  ⟨c0_i32_46, v148, c1_i32_48⟩
def k0_mult5 (k0_t1 : Fin k0_t1_loop.trips) (k0_t4 : Fin (k0_t4_loop k0_t1).trips) : BitVec 32 :=
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_46 : BitVec 32 := 0#32
  let c1_i32_48 : BitVec 32 := 1#32
  let arg7 : BitVec 32 := Scf.iv c0_i32_46 c1_i32_48 k0_t4
  let v160 : BitVec 32 := Scalar.subi v159 arg7
  let c256_i32_53 : BitVec 32 := 256#32
  let v161 : BitVec 32 := Scalar.muli v160 c256_i32_53
  v161
def k0_off5 (k0_t1 : Fin k0_t1_loop.trips) (k0_t4 : Fin (k0_t4_loop k0_t1).trips) : Fin 3 → Nat :=
  let c0_54 : Index := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_46 : BitVec 32 := 0#32
  let c1_i32_48 : BitVec 32 := 1#32
  let arg7 : BitVec 32 := Scf.iv c0_i32_46 c1_i32_48 k0_t4
  let v160 : BitVec 32 := Scalar.subi v159 arg7
  let c256_i32_53 : BitVec 32 := 256#32
  let v161 : BitVec 32 := Scalar.muli v160 c256_i32_53
  let v162 : BitVec 32 := v161
  let v163 : Index := Scalar.indexCast v162
  let c0_55 : Index := 0#32
  ![0, v163.toNat, 0]
@[reducible] def k0_t5_loop (k0_t1 : Fin k0_t1_loop.trips) : Scf.Loop 32 :=
  let c0_i32_46 : BitVec 32 := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let v144 : BitVec 32 := Scalar.subi v40 c0_i32_46
  let c1_i32_47 : BitVec 32 := 1#32
  let v146 : BitVec 32 := Scalar.divsi v144 c1_i32_47
  let v147 : BitVec 32 := Scalar.muli v146 c1_i32_47
  let v148 : BitVec 32 := Scalar.addi c0_i32_46 v147
  let v145 : BitVec 32 := Scalar.addi c0_i32_46 v144
  let c1_i32_49 : BitVec 32 := 1#32
  ⟨v148, v145, c1_i32_49⟩
def k0_mult6 (k0_t1 : Fin k0_t1_loop.trips) (k0_t5 : Fin (k0_t5_loop k0_t1).trips) : BitVec 32 :=
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_46 : BitVec 32 := 0#32
  let v144 : BitVec 32 := Scalar.subi v40 c0_i32_46
  let c1_i32_47 : BitVec 32 := 1#32
  let v146 : BitVec 32 := Scalar.divsi v144 c1_i32_47
  let v147 : BitVec 32 := Scalar.muli v146 c1_i32_47
  let v148 : BitVec 32 := Scalar.addi c0_i32_46 v147
  let c1_i32_49 : BitVec 32 := 1#32
  let arg7 : BitVec 32 := Scf.iv v148 c1_i32_49 k0_t5
  let v160 : BitVec 32 := Scalar.subi v159 arg7
  let c256_i32_53 : BitVec 32 := 256#32
  let v161 : BitVec 32 := Scalar.muli v160 c256_i32_53
  v161
def k0_off6 (k0_t1 : Fin k0_t1_loop.trips) (k0_t5 : Fin (k0_t5_loop k0_t1).trips) : Fin 3 → Nat :=
  let c0_54 : Index := 0#32
  let c0_i32 : BitVec 32 := 0#32
  let c1_i32 : BitVec 32 := 1#32
  let arg6 : BitVec 32 := Scf.iv c0_i32 c1_i32 k0_t1
  let c0_i32_2 : BitVec 32 := 0#32
  let v25 : BitVec 1 := Scalar.cmpi .sgt arg6 c0_i32_2
  let v26 : BitVec 32 := Scalar.extui v25
  let c0_i32_3 : BitVec 32 := 0#32
  let v27 : BitVec 1 := Scalar.cmpi .slt arg6 c0_i32_3
  let v28 : BitVec 32 := Scalar.extui v27
  let v29 : BitVec 32 := Scalar.subi v26 v28
  let c2_i32 : BitVec 32 := 2#32
  let c0_i32_4 : BitVec 32 := 0#32
  let v30 : BitVec 1 := Scalar.cmpi .sgt c2_i32 c0_i32_4
  let v31 : BitVec 32 := Scalar.extui v30
  let c0_i32_5 : BitVec 32 := 0#32
  let v32 : BitVec 1 := Scalar.cmpi .slt c2_i32 c0_i32_5
  let v33 : BitVec 32 := Scalar.extui v32
  let v34 : BitVec 32 := Scalar.subi v31 v33
  let v35 : BitVec 1 := Scalar.cmpi .ne v29 v34
  let v36 : BitVec 32 := Scalar.remsi arg6 c2_i32
  let c0_i32_6 : BitVec 32 := 0#32
  let v37 : BitVec 1 := Scalar.cmpi .ne v36 c0_i32_6
  let v38 : BitVec 1 := Scalar.andi v35 v37
  let v24 : BitVec 32 := Scalar.divsi arg6 c2_i32
  let c1_i32_7 : BitVec 32 := 1#32
  let v39 : BitVec 32 := Scalar.subi v24 c1_i32_7
  let v40 : BitVec 32 := Scalar.select v38 v39 v24
  let c1_i32_52 : BitVec 32 := 1#32
  let v159 : BitVec 32 := Scalar.subi v40 c1_i32_52
  let c0_i32_46 : BitVec 32 := 0#32
  let v144 : BitVec 32 := Scalar.subi v40 c0_i32_46
  let c1_i32_47 : BitVec 32 := 1#32
  let v146 : BitVec 32 := Scalar.divsi v144 c1_i32_47
  let v147 : BitVec 32 := Scalar.muli v146 c1_i32_47
  let v148 : BitVec 32 := Scalar.addi c0_i32_46 v147
  let c1_i32_49 : BitVec 32 := 1#32
  let arg7 : BitVec 32 := Scf.iv v148 c1_i32_49 k0_t5
  let v160 : BitVec 32 := Scalar.subi v159 arg7
  let c256_i32_53 : BitVec 32 := 256#32
  let v161 : BitVec 32 := Scalar.muli v160 c256_i32_53
  let v162 : BitVec 32 := v161
  let v163 : Index := Scalar.indexCast v162
  let c0_55 : Index := 0#32
  ![0, v163.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StickRefIdeal.lean ====
abbrev S16x2048x3072 : Shape := ⟨3, ![16, 2048, 3072]⟩
abbrev S16x2048x3x16x64 : Shape := ⟨5, ![16, 2048, 3, 16, 64]⟩
abbrev S16x2048x1x16x64 : Shape := ⟨5, ![16, 2048, 1, 16, 64]⟩
abbrev S16x2048x16x64 : Shape := ⟨4, ![16, 2048, 16, 64]⟩
abbrev S16x16x2048x2048 : Shape := ⟨4, ![16, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x16x64x2048 : Shape := ⟨4, ![16, 16, 64, 2048]⟩
abbrev S16x2048x1024 : Shape := ⟨3, ![16, 2048, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S16x2048x3072, .f32⟩
  | .hbm, ⟨2, _⟩ => ⟨S16x2048x3x16x64, .f32⟩
  | .hbm, ⟨3, _⟩ => ⟨S16x2048x1x16x64, .f32⟩
  | .hbm, ⟨4, _⟩ => ⟨S16x2048x16x64, .f32⟩
  | .hbm, ⟨5, _⟩ => ⟨S16x2048x1x16x64, .f32⟩
  | .hbm, ⟨6, _⟩ => ⟨S16x2048x16x64, .f32⟩
  | .hbm, ⟨7, _⟩ => ⟨S16x2048x1x16x64, .f32⟩
  | .hbm, ⟨8, _⟩ => ⟨S16x2048x16x64, .f32⟩
  | .hbm, ⟨9, _⟩ => ⟨S16x16x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S16x16x2048x2048, .f32⟩
  | .hbm, ⟨18, _⟩ => ⟨S_, .f32⟩
  | .hbm, ⟨19, _⟩ => ⟨S16x16x2048x2048, .f32⟩
  | .hbm, ⟨20, _⟩ => ⟨S16x16x2048x2048, .f32⟩
  | .hbm, ⟨21, _⟩ => ⟨S16x16x2048x2048, .f32⟩
  | .hbm, ⟨22, _⟩ => ⟨S16x16x2048x2048, .f32⟩
  | .hbm, ⟨23, _⟩ => ⟨S16x16x2048x2048, .i1⟩
  | .hbm, ⟨24, _⟩ => ⟨S16x16x2048x2048, .f32⟩
  | .hbm, ⟨25, _⟩ => ⟨S16x16x2048x2048, .f32⟩
  | .hbm, ⟨26, _⟩ => ⟨S16x16x2048x2048, .f32⟩
  | .hbm, ⟨27, _⟩ => ⟨S16x16x2048x2048, .f32⟩
  | .hbm, ⟨28, _⟩ => ⟨S16x16x2048x2048, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S16x16x2048x2048, .f32⟩
  | .hbm, ⟨33, _⟩ => ⟨S_, .f32⟩
  | .hbm, ⟨34, _⟩ => ⟨S_, .f32⟩
  | .hbm, ⟨35, _⟩ => ⟨S16x16x2048x2048, .i1⟩
  | .hbm, ⟨36, _⟩ => ⟨S16x16x2048x2048, .f32⟩
  | .hbm, ⟨37, _⟩ => ⟨S16x16x2048x2048, .f32⟩
  | .hbm, ⟨38, _⟩ => ⟨S16x16x2048x2048, .f32⟩
  | .hbm, ⟨39, _⟩ => ⟨S16x16x2048x2048, .f32⟩
  | .hbm, ⟨40, _⟩ => ⟨S_, .f32⟩
  | .hbm, ⟨41, _⟩ => ⟨S16x16x2048x2048, .f32⟩
  | .hbm, ⟨42, _⟩ => ⟨S16x16x2048x2048, .f32⟩
  | .hbm, ⟨43, _⟩ => ⟨S16x16x2048x2048, .f32⟩
  | .hbm, ⟨44, _⟩ => ⟨S16x16x2048x2048, .f32⟩
  | .hbm, ⟨45, _⟩ => ⟨S16x16x2048x2048, .i1⟩
  | .hbm, ⟨46, _⟩ => ⟨S16x16x2048x2048, .f32⟩
  | .hbm, ⟨47, _⟩ => ⟨S16x16x2048x2048, .f32⟩
  | .hbm, ⟨48, _⟩ => ⟨S16x16x2048x2048, .f32⟩
  | .hbm, ⟨49, _⟩ => ⟨S16x16x2048x2048, .f32⟩
  | .hbm, ⟨50, _⟩ => ⟨S16x16x2048x2048, .f32⟩
  | .hbm, ⟨51, _⟩ => ⟨S16x16x2048x2048, .f32⟩
  | .hbm, ⟨52, _⟩ => ⟨S16x16x2048x2048, .f32⟩
  | .hbm, ⟨53, _⟩ => ⟨S16x16x2048x2048, .f32⟩
  | .hbm, ⟨54, _⟩ => ⟨S16x16x2048x2048, .f32⟩
  | .hbm, ⟨55, _⟩ => ⟨S_, .f32⟩
  | .hbm, ⟨56, _⟩ => ⟨S_, .f32⟩
  | .hbm, ⟨57, _⟩ => ⟨S16x16x2048x2048, .i1⟩
  | .hbm, ⟨58, _⟩ => ⟨S16x16x2048x2048, .f32⟩
  | .hbm, ⟨59, _⟩ => ⟨S16x16x2048x2048, .f32⟩
  | .hbm, ⟨60, _⟩ => ⟨S_, .f32⟩
  | .hbm, ⟨61, _⟩ => ⟨S_, .f32⟩
  | .hbm, ⟨62, _⟩ => ⟨S16x16x2048x2048, .f32⟩
  | .hbm, ⟨63, _⟩ => ⟨S16x16x2048x2048, .f32⟩
  | .hbm, ⟨64, _⟩ => ⟨S16x16x2048x2048, .f32⟩
  | .hbm, ⟨65, _⟩ => ⟨S16x16x2048x2048, .f32⟩
  | .hbm, ⟨66, _⟩ => ⟨S16x16x64x2048, .f32⟩
  | .hbm, ⟨67, _⟩ => ⟨S16x2048x16x64, .f32⟩
  | .hbm, ⟨68, _⟩ => ⟨S16x2048x1024, .f32⟩
  | .hbm, ⟨69, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_call0_cst : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_v6 : Ref sig .tc := ⟨.hbm, 47, rfl⟩
abbrev main_call2_call0_v7 : Ref sig .tc := ⟨.hbm, 48, rfl⟩
abbrev main_call2_call0_v8 : Ref sig .tc := ⟨.hbm, 49, rfl⟩
abbrev main_call2_call0_v9 : Ref sig .tc := ⟨.hbm, 50, rfl⟩
abbrev main_call2_call0_v10 : Ref sig .tc := ⟨.hbm, 51, rfl⟩
abbrev main_call2_call0_v11 : Ref sig .tc := ⟨.hbm, 52, rfl⟩
abbrev main_call2_v1 : Ref sig .tc := ⟨.hbm, 53, rfl⟩
abbrev main_v19 : Ref sig .tc := ⟨.hbm, 54, rfl⟩
abbrev main_cst_0 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v20 : Ref sig .tc := ⟨.hbm, 59, rfl⟩
abbrev main_call4_cst : Ref sig .tc := ⟨.hbm, 60, rfl⟩
abbrev main_call4_v0 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩

abbrev nD : Nat := 1
abbrev τ : Topo := Topo.v7x

variable {F : FTy → Type} [FloatOps F]
-- ==== Proof.Norm.lean ====
/- The row formulas the feed-forward and output-projection claims meet in: a layer norm of one row of 1024 numbers,
   and the gated unit of a feed-forward layer, over the extended reals. -/
module

public import Idealize.ShloMosaic.Lib.Pointwise

@[expose] public section

noncomputable section

open Idealize.ShloMosaic Idealize.ShloMosaic.TcCoe

namespace Cert.Norm

/-- The mean of a row: its sum over the row length, 1024. -/
def mean (x : Fin 1024 → EReal) : EReal := Ideal.div (∑ k : Fin 1024, x k) (Ideal.ofBits .f32 0x44800000#32)

/-- A row less its mean. -/
def centred (x : Fin 1024 → EReal) (n : Fin 1024) : EReal := x n - mean x

/-- The variance of a row plus the norm's epsilon: what the reciprocal square root is taken of. -/
def spread (x : Fin 1024 → EReal) : EReal :=
  mean (fun k => centred x k * centred x k) + Ideal.ofBits .f32 0x3727C5AC#32

/-- Layer norm of a row at position `n`, gain `g` and offset `b` there. -/
def layerNorm (x : Fin 1024 → EReal) (g b : EReal) (n : Fin 1024) : EReal :=
  centred x n * Ideal.rsqrt (spread x) * g + b

/-- The residual's weight on the layer's input: the float word of the fourth root of 8. -/
abbrev alpha : EReal := Ideal.ofBits .f32 0x3FD744FD#32

/-- The gated unit: the gate's sigmoid-weighted value times the up projection. -/
def gated (a u : EReal) : EReal := a * Ideal.logistic a * u

/-- A product of a row with column `n` of a matrix. -/
def dotCol {K N : ℕ} (x : Fin K → EReal) (w : Fin K → Fin N → EReal) (n : Fin N) : EReal := ∑ k : Fin K, x k * w k n

/-- One row of the feed-forward half step before its norm. -/
def ffnRow (x : Fin 1024 → EReal) (wg wu : Fin 1024 → Fin 2816 → EReal) (wd : Fin 2816 → Fin 1024 → EReal)
    (n : Fin 1024) : EReal :=
  alpha * x n + Ideal.ofBits .f32 0x3F000000#32 * dotCol (fun h => gated (dotCol x wg h) (dotCol x wu h)) wd n

/-- One row of the output projection with its residual, before its norm. -/
def projRow (a x : Fin 1024 → EReal) (w : Fin 1024 → Fin 1024 → EReal) (n : Fin 1024) : EReal :=
  alpha * x n + dotCol a w n

/-- A finite sum times a nonnegative real: the real goes to each term. -/
theorem sum_mul_coe {ι : Type*} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

end Cert.Norm

end
-- ==== Proof.FfnValue.lean ====
/- The feed-forward half step: the kernel's result array is the reference's, element by element. Both are read as one
   layer norm of the row `alpha * x + 0.5 * (silu (x @ gate) * (x @ up)) @ down`. -/
module

public import proofs.«01_k».proof.Proof.Norm
public import proofs.«01_k».proof.Proof.Gen.FfnIdeal.Frame
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnRefIdeal.Spec

open Cert.FfnRefIdeal Cert.FfnRefIdeal.Gen Cert.FfnRefIdeal.Read Cert.Norm

/-- The reference's gated unit. -/
theorem hidden_at (X : FVec Ideal S32768x1024 .f32) (G U : FVec Ideal S1024x2816 .f32) (r : Fin 32768) (h : Fin 2816) :
    val_main_v3 (F := Ideal) X G U (ix2 r h)
      = gated (dotCol (fun k => X (ix2 r k)) (fun k n => G (ix2 k n)) h) (dotCol (fun k => X (ix2 r k)) (fun k n => U (ix2 k n)) h) := by
  unfold gated dotCol Ideal.logistic
  pointwise [val_main_v3, val_main_v2, val_main_v1, val_main_v0, val_main_call0_v5, val_main_call0_v4, val_main_call0_v3,
    val_main_call0_v2, val_main_call0_v1, val_main_call0_v0, val_main_call0_cst, val_main_call0_cst_0]
  all_goals trace_state

/-- The reference before its norm. -/
theorem row_at (X : FVec Ideal S32768x1024 .f32) (G U : FVec Ideal S1024x2816 .f32) (D : FVec Ideal S2816x1024 .f32)
    (r : Fin 32768) (n : Fin 1024) : val_main_v9 (F := Ideal) X G U D (ix2 r n)
      = ffnRow (fun k => X (ix2 r k)) (fun k n => G (ix2 k n)) (fun k n => U (ix2 k n)) (fun k n => D (ix2 k n)) n := by
  unfold ffnRow
  conv_rhs => rw [dotCol]
  simp only [← hidden_at]
  generalize hY : val_main_v3 (F := Ideal) X G U = Y
  pointwise [val_main_v9, val_main_v8, val_main_v7, val_main_v6, val_main_v5, val_main_v4, val_main_cst, val_main_cst_0, hY]

/-- The reference's result is the norm of that row. -/
theorem ref_at (X : FVec Ideal S32768x1024 .f32) (G U : FVec Ideal S1024x2816 .f32) (D : FVec Ideal S2816x1024 .f32)
    (g b : FVec Ideal S1024 .f32) (r : Fin 32768) (n : Fin 1024) :
    val_main_v33 (F := Ideal) X G U D g b (ix2 r n)
      = layerNorm (ffnRow (fun k => X (ix2 r k)) (fun k n => G (ix2 k n)) (fun k n => U (ix2 k n)) (fun k n => D (ix2 k n)))
          (g (ix1 n)) (b (ix1 n)) n := by
  have h : ∀ k, val_main_v9 (F := Ideal) X G U D (ix2 r k) = _ := row_at X G U D r
  unfold layerNorm spread centred mean
  simp only [← h]
  generalize hY : val_main_v9 (F := Ideal) X G U D = Y
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_cst_1, val_main_cst_2, val_main_cst_3, val_main_cst_4, val_main_cst_5, hY]

end Cert.FfnRefIdeal.Spec

namespace Cert.FfnIdeal.Val

open Cert.FfnIdeal Cert.FfnIdeal.Gen Cert.Norm

/-- The kernel's centred row. -/
theorem centred_at (X : FVec Ideal S512x1024 .f32) (G U : FVec Ideal S1024x2816 .bf16) (D : FVec Ideal S2816x1024 .bf16)
    (r : Fin 512) (n : Fin 1024) :
    k0_pay4 (F := Ideal) X G U D (ix2 r n)
      = centred (ffnRow (fun k => X (ix2 r k)) (fun k n => G (ix2 k n)) (fun k n => U (ix2 k n)) (fun k n => D (ix2 k n))) n := by
  unfold centred mean ffnRow gated dotCol
  pointwise [k0_pay4]

/-- The kernel's variance plus epsilon. -/
theorem spread_at (X : FVec Ideal S512x1024 .f32) (G U : FVec Ideal S1024x2816 .bf16) (D : FVec Ideal S2816x1024 .bf16)
    (r : Fin 512) :
    k0_pay5 (F := Ideal) X G U D (ix2 r 0)
      = spread (ffnRow (fun k => X (ix2 r k)) (fun k n => G (ix2 k n)) (fun k n => U (ix2 k n)) (fun k n => D (ix2 k n))) := by
  unfold spread
  conv_rhs => rw [mean]
  simp only [← centred_at]
  pointwise [k0_pay5]

/-- What the kernel body stores, read at a block position. -/
theorem pay_at (X : FVec Ideal S512x1024 .f32) (G U : FVec Ideal S1024x2816 .bf16) (D : FVec Ideal S2816x1024 .bf16)
    (g b : FVec Ideal S1x1024 .f32) (r : Fin 512) (n : Fin 1024) :
    k0_pay1 (F := Ideal) (k0_pay2 g) (k0_pay3 b) (k0_pay4 X G U D) (k0_pay5 X G U D) (ix2 r n)
      = layerNorm (ffnRow (fun k => X (ix2 r k)) (fun k n => G (ix2 k n)) (fun k n => U (ix2 k n)) (fun k n => D (ix2 k n)))
          (g (ix2 0 n)) (b (ix2 0 n)) n := by
  unfold layerNorm
  rw [← centred_at, ← spread_at]
  pointwise [k0_pay1, k0_pay2, k0_pay3]

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The array row that row `r` of point `t`'s block is. -/
def rowOf (t : Fin cfg0.N) (r : Fin 512) : Fin 32768 :=
  ⟨t.val * 512 + r.val, by have : t.val < 64 := t.isLt; omega⟩

/-- What point `t` stores at `y` is the reference at the array position `y` sits at. -/
theorem point (c : Dev nD) (t : Fin cfg0.N) (y) :
    k0_pay1 (F := Ideal) (k0_pay2 (iblk m c 4 t)) (k0_pay3 (iblk m c 5 t))
        (k0_pay4 (iblk m c 0 t) (iblk m c 1 t) (iblk m c 2 t) (iblk m c 3 t))
        (k0_pay5 (iblk m c 0 t) (iblk m c 1 t) (iblk m c 2 t) (iblk m c 3 t)) y
      = Cert.FfnRefIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 6).blk t).view.emb y) := by
  idx_vars y
  have he : ((cfg0.win 6).blk t).view.emb (ix2 y0 y1) = (ix2 (rowOf t y0) y1 : Cert.FfnRefIdeal.S32768x1024.Idx) := by
    blk_ext [idx t, rowOf]
  rw [he]
  refine (pay_at _ _ _ _ _ _ y0 y1).trans ((?_ : _ = _).trans (Cert.FfnRefIdeal.Spec.ref_at _ _ _ _ _ _ (rowOf t y0) y1).symm)
  have hX : ∀ k : Fin 1024, iblk m c 0 t (ix2 y0 k) = m ((c : Thread nD τ).loc main_arg0) (ix2 (rowOf t y0) k) := fun k => by
    blk_ext [iblk, V, idx t, rowOf]
  have hG : ∀ (k : Fin 1024) (n : Fin 2816), iblk m c 1 t (ix2 k n) = m ((c : Thread nD τ).loc main_arg1) (ix2 k n) := fun k n => by
    blk_simp [iblk]; entry_read; pointwise; blk_ext [idx t]
  have hU : ∀ (k : Fin 1024) (n : Fin 2816), iblk m c 2 t (ix2 k n) = m ((c : Thread nD τ).loc main_arg2) (ix2 k n) := fun k n => by
    blk_simp [iblk]; entry_read; pointwise; blk_ext [idx t]
  have hD : ∀ (k : Fin 2816) (n : Fin 1024), iblk m c 3 t (ix2 k n) = m ((c : Thread nD τ).loc main_arg3) (ix2 k n) := fun k n => by
    blk_simp [iblk]; entry_read; pointwise; blk_ext [idx t]
  have hg : iblk m c 4 t (ix2 0 y1) = m ((c : Thread nD τ).loc main_arg4) (ix1 y1) := by
    blk_simp [iblk]; entry_read; pointwise; blk_ext [idx t]
  have hb : iblk m c 5 t (ix2 0 y1) = m ((c : Thread nD τ).loc main_arg5) (ix1 y1) := by
    blk_simp [iblk]; entry_read; pointwise; blk_ext [idx t]
  refine congr (congr (congrArg _ ?_) hg) hb |> fun h => congrFun h y1
  exact congr (congr (congrArg₂ _ (funext hX) (funext fun k => funext fun n => hG k n)) (funext fun k => funext fun n => hU k n))
    (funext fun k => funext fun n => hD k n)

/-- The result array after the run is the reference's result over the same arguments. -/
theorem final (c : Dev nD) : (dats m 0 c).arrAt 6 (cfgs 0).N
      = Cert.FfnRefIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (dats m 0 c).arrAt_eq_of_covers 6 _ (by decide +kernel) fun t _ y => ?_
  blk_simp
  rw [after0_6]
  frame_out
  exact point m c t y

end Cert.FfnIdeal.Val

end
-- ==== Proof.QkvValue.lean ====
/- The query/key/value projection: the kernel scales the weights of the query columns and then multiplies, the reference
   multiplies and then scales the query columns. The scale is a positive real, so the sum carries it out. -/
module

public import proofs.«01_k».proof.Proof.Norm
public import proofs.«01_k».proof.Proof.Gen.QkvIdeal.Frame
public import proofs.«01_k».proof.Proof.Gen.QkvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Norm

/-- The weight of column `n`: the logits' scale on the query columns, one on the others. -/
def colScale (n : Fin 3072) : EReal := if n.val < 1024 then Ideal.ofBits .f32 0x3E000000#32 else 1

/-- The scale's float word is the real 1/8. -/
theorem ofBits_eighth : Ideal.ofBits .f32 0x3E000000#32 = (((1 : ℝ) / 8 : ℝ) : EReal) := by
  simp [Ideal.ofBits, Ideal.ieee, -EReal.coe_mul]; norm_num

/-- A product with a scaled column is the scaled product. -/
theorem dotCol_colScale (x : Fin 1024 → EReal) (w : Fin 1024 → Fin 3072 → EReal) (n : Fin 3072) :
    dotCol x (fun k n => w k n * colScale n) n = dotCol x w n * colScale n := by
  unfold dotCol colScale
  by_cases h : n.val < 1024
  · simp only [if_pos h]
    rw [ofBits_eighth, sum_mul_coe _ _ _ (by norm_num)]
    exact Finset.sum_congr rfl fun k _ => (mul_assoc _ _ _).symm
  · simp only [if_neg h, mul_one]

end Cert.Norm

namespace Cert.QkvRefIdeal.Spec

open Cert.QkvRefIdeal Cert.QkvRefIdeal.Gen Cert.QkvRefIdeal.Read Cert.Norm

/-- The reference's result: the product, its query columns scaled. -/
theorem ref_at (X : FVec Ideal S32768x1024 .f32) (W : FVec Ideal S1024x3072 .f32) (r : Fin 32768) (n : Fin 3072) :
    val_main_v6 (F := Ideal) X W (ix2 r n) = dotCol (fun k => X (ix2 r k)) (fun k n => W (ix2 k n)) n * colScale n := by
  unfold dotCol colScale
  pointwise [val_main_v6, val_main_v5, val_main_v4, val_main_v3, val_main_cst, val_main_v2, val_main_v1, val_main_v0]
  by_cases h : n.val < 1024
  · simp only [h, ↓reduceDIte, ↓reduceIte]
  · simp only [h, ↓reduceDIte, ↓reduceIte, mul_one]
    refine Finset.sum_congr rfl fun k _ => ?_
    have e : (⟨1024 + (n.val - 1024), by omega⟩ : Fin 3072) = n := Fin.ext (by simp only; omega)
    rw [e]

end Cert.QkvRefIdeal.Spec

namespace Cert.QkvIdeal.Val

open Cert.QkvIdeal Cert.QkvIdeal.Gen Cert.Norm

/-- What the kernel body stores, read at a block position. -/
theorem pay_at (X : FVec Ideal S512x1024 .f32) (W : FVec Ideal S1024x3072 .bf16) (r : Fin 512) (n : Fin 3072) :
    k0_pay1 (F := Ideal) X W (ix2 r n) = dotCol (fun k => X (ix2 r k)) (fun k n => W (ix2 k n)) n := by
  unfold dotCol
  pointwise [k0_pay1]

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- The array row that row `r` of point `t`'s block is. -/
def rowOf (t : Fin cfg0.N) (r : Fin 512) : Fin 32768 :=
  ⟨t.val * 512 + r.val, by have : t.val < 64 := t.isLt; omega⟩

/-- The staged weights: the argument's, each column times its scale. -/
theorem weights_at (c : Dev nD) (t : Fin cfg0.N) (k : Fin 1024) (n : Fin 3072) :
    iblk m c 1 t (ix2 k n) = (show EReal from m ((c : Thread nD τ).loc main_arg1) (ix2 k n)) * colScale n := by
  unfold colScale
  blk_simp [iblk]
  entry_read
  have he : ((View.whole main_v6).slice (win0_1.rect t)).emb (ix2 k n) = (ix2 k n : S1024x3072.Idx) := by
    blk_ext [idx t]
  rw [he]
  pointwise
  by_cases h : n.val < 1024
  · simp only [h, ↓reduceDIte, ↓reduceIte]
  · simp only [h, ↓reduceDIte, ↓reduceIte]

/-- What point `t` stores at `y` is the reference at the array position `y` sits at. -/
theorem point (c : Dev nD) (t : Fin cfg0.N) (y) :
    k0_pay1 (F := Ideal) (iblk m c 0 t) (iblk m c 1 t) y
      = Cert.QkvRefIdeal.Read.val_main_v6 (F := Ideal) (m ((c : Thread nD τ).loc main_arg0)) (m ((c : Thread nD τ).loc main_arg1))
          (((cfg0.win 2).blk t).view.emb y) := by
  idx_vars y
  have he : ((cfg0.win 2).blk t).view.emb (ix2 y0 y1) = (ix2 (rowOf t y0) y1 : Cert.QkvRefIdeal.S32768x3072.Idx) := by
    blk_ext [idx t, rowOf]
  rw [he]
  refine (pay_at _ _ y0 y1).trans ((?_ : _ = _).trans
    ((dotCol_colScale _ _ y1).trans (Cert.QkvRefIdeal.Spec.ref_at _ _ (rowOf t y0) y1).symm))
  have hX : ∀ k : Fin 1024, iblk m c 0 t (ix2 y0 k) = m ((c : Thread nD τ).loc main_arg0) (ix2 (rowOf t y0) k) := fun k => by
    blk_ext [iblk, V, idx t, rowOf]
  refine congrArg₂ _ (funext hX) ?_ |> fun h => congrFun h y1
  exact funext fun k => funext fun n => weights_at m c t k n

/-- The result array after the run is the reference's result over the same arguments. -/
theorem final (c : Dev nD) : (dats m 0 c).arrAt 2 (cfgs 0).N
      = Cert.QkvRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.QkvIdeal.Val

end
-- ==== Proof.ProjValue.lean ====
/- The output projection: the kernel's result array is the reference's, element by element. Both are read as one
   layer norm of the row `alpha * x + a @ w`. -/
module

public import proofs.«01_k».proof.Proof.Norm
public import proofs.«01_k».proof.Proof.Gen.ProjIdeal.Frame
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjRefIdeal.Spec

open Cert.ProjRefIdeal Cert.ProjRefIdeal.Gen Cert.ProjRefIdeal.Read Cert.Norm

/-- The reference before its norm. -/
theorem row_at (A : FVec Ideal S32768x1024 .bf16) (X : FVec Ideal S32768x1024 .f32) (W : FVec Ideal S1024x1024 .f32)
    (r : Fin 32768) (n : Fin 1024) : val_main_v4 (F := Ideal) A X W (ix2 r n)
      = projRow (fun k => A (ix2 r k)) (fun k => X (ix2 r k)) (fun k n => W (ix2 k n)) n := by
  pointwise [val_main_v4, val_main_v3, val_main_v2, val_main_cst, val_main_v1, val_main_v0, projRow, dotCol]

/-- The reference's result is the norm of that row. -/
theorem ref_at (A : FVec Ideal S32768x1024 .bf16) (X : FVec Ideal S32768x1024 .f32) (W : FVec Ideal S1024x1024 .f32)
    (g b : FVec Ideal S1024 .f32) (r : Fin 32768) (n : Fin 1024) :
    val_main_v28 (F := Ideal) A X W g b (ix2 r n)
      = layerNorm (projRow (fun k => A (ix2 r k)) (fun k => X (ix2 r k)) (fun k n => W (ix2 k n))) (g (ix1 n)) (b (ix1 n)) n := by
  have h : ∀ k, val_main_v4 (F := Ideal) A X W (ix2 r k) = _ := row_at A X W r
  unfold layerNorm spread centred mean
  simp only [← h]
  generalize hY : val_main_v4 (F := Ideal) A X W = Y
  pointwise [val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_v5, val_main_cst_0, val_main_cst_1, val_main_cst_2, val_main_cst_3, val_main_cst_4, hY]

end Cert.ProjRefIdeal.Spec

namespace Cert.ProjIdeal.Val

open Cert.ProjIdeal Cert.ProjIdeal.Gen Cert.Norm

/-- What the kernel body stores, read at a block position. -/
theorem pay_at (A : FVec Ideal S512x1024 .bf16) (W : FVec Ideal S1024x1024 .bf16) (X : FVec Ideal S512x1024 .f32)
    (g b : FVec Ideal S1x1024 .f32) (r : Fin 512) (n : Fin 1024) :
    k0_pay1 (F := Ideal) A W X g b (ix2 r n)
      = layerNorm (projRow (fun k => A (ix2 r k)) (fun k => X (ix2 r k)) (fun k n => W (ix2 k n))) (g (ix2 0 n)) (b (ix2 0 n)) n := by
  unfold layerNorm spread centred mean projRow dotCol
  pointwise [k0_pay1]

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- The array row that row `r` of point `t`'s block is. -/
def rowOf (t : Fin cfg0.N) (r : Fin 512) : Fin 32768 :=
  ⟨t.val * 512 + r.val, by have : t.val < 64 := t.isLt; omega⟩

/-- What point `t` stores at `y` is the reference at the array position `y` sits at. -/
theorem point (c : Dev nD) (t : Fin cfg0.N) (y) :
    k0_pay1 (F := Ideal) (iblk m c 0 t) (iblk m c 2 t) (iblk m c 1 t) (iblk m c 3 t) (iblk m c 4 t) y
      = Cert.ProjRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  idx_vars y
  have he : ((cfg0.win 5).blk t).view.emb (ix2 y0 y1) = (ix2 (rowOf t y0) y1 : Cert.ProjRefIdeal.S32768x1024.Idx) := by
    blk_ext [idx t, rowOf]
  rw [he]
  refine (pay_at _ _ _ _ _ y0 y1).trans ((?_ : _ = _).trans (Cert.ProjRefIdeal.Spec.ref_at _ _ _ _ _ (rowOf t y0) y1).symm)
  have hA : ∀ k : Fin 1024, iblk m c 0 t (ix2 y0 k) = m ((c : Thread nD τ).loc main_arg0) (ix2 (rowOf t y0) k) := fun k => by
    blk_ext [iblk, V, idx t, rowOf]
  have hX : ∀ k : Fin 1024, iblk m c 1 t (ix2 y0 k) = m ((c : Thread nD τ).loc main_arg1) (ix2 (rowOf t y0) k) := fun k => by
    blk_ext [iblk, V, idx t, rowOf]
  have hW : ∀ (k n : Fin 1024), iblk m c 2 t (ix2 k n) = m ((c : Thread nD τ).loc main_arg2) (ix2 k n) := fun k n => by
    blk_simp [iblk]; entry_read; pointwise; blk_ext [idx t]
  have hg : iblk m c 3 t (ix2 0 y1) = m ((c : Thread nD τ).loc main_arg3) (ix1 y1) := by
    blk_simp [iblk]; entry_read; pointwise; blk_ext [idx t]
  have hb : iblk m c 4 t (ix2 0 y1) = m ((c : Thread nD τ).loc main_arg4) (ix1 y1) := by
    blk_simp [iblk]; entry_read; pointwise; blk_ext [idx t]
  refine congr (congrArg₂ _ (congr (congrArg₂ _ (funext hA) (funext hX)) ?_) hg) hb |> fun h => congrFun h y1
  exact funext fun k => funext fun n => hW k n

/-- The result array after the run is the reference's result over the same arguments. -/
theorem final (c : Dev nD) : (dats m 0 c).arrAt 5 (cfgs 0).N
      = Cert.ProjRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.ProjIdeal.Val

end
-- ==== Proof.BandRun.lean ====
module

public import proofs.«01_k».proof.Proof.Gen.BandIdeal.Frame
public import Idealize.ShloMosaic.Lib.Pipeline.ValueKit

/-!
# The banded attention: what the loop over the query blocks leaves in the output block

The kernel copies the keys and the values behind 512 rows of zeros and then runs sixteen trips, each reading 128 query
rows, a window of 640 padded keys and values, and writing the 128 result rows. Here the buffer after the sixteen trips is
read: row `128 k + r` of the output block is row `r` of what trip `k` stored.
-/

@[expose] public section

set_option maxRecDepth 16384

noncomputable section

open Idealize.ShloMosaic Idealize.ShloMosaic.TcCoe Idealize.SL.Sem
open Idealize.ShloMosaic.Pipeline (Dat)

namespace Cert.BandIdeal.Val
open Cert.BandIdeal Cert.BandIdeal.Gen

/-- The loop has sixteen trips. -/
theorem trip_lt (k : Fin k0_t1_loop.trips) : k.val < 16 := Nat.lt_of_lt_of_le k.isLt k0_t1_abs.2.1

/-- The block behind 512 rows of zeros. -/
def padded (x : Vec Ideal S1x2048x128 .bf16) : Vec Ideal S2560x128 .bf16 := fun y =>
  if h : (y 0).val < 512 then (0 : EReal) else x (ix3 0 ⟨(y 0).val - 512, by have : (y 0).val < 2560 := (y 0).isLt; omega⟩ (y 1))

/-- The 128 query rows of trip `k`. -/
def qWin (x : Vec Ideal S1x2048x128 .bf16) (k : Fin k0_t1_loop.trips) : Vec Ideal S1x128x128 .bf16 := fun j =>
  x (ix3 0 ⟨128 * k.val + (j 1).val, by have := trip_lt k; have : (j 1).val < 128 := (j 1).isLt; omega⟩ (j 2))

/-- The 640 padded rows trip `k` looks at. -/
def kWin (y : Vec Ideal S2560x128 .bf16) (k : Fin k0_t1_loop.trips) : Vec Ideal S640x128 .bf16 := fun j =>
  y (ix2 ⟨128 * k.val + (j 0).val, by have := trip_lt k; have : (j 0).val < 640 := (j 0).isLt; omega⟩ (j 1))

/-- The bias of one of the two heads. -/
def bWin (x : Vec Ideal S2x128x640 .f32) (h : Fin 2) : Vec Ideal S1x128x640 .f32 := fun j => x (ix3 h (j 1) (j 2))

/-- The positions of the window, as the kernel numbers them. -/
abbrev lanes : IVec S128x640 32 := iota Kind.tc S128x640 32 [1] iota_S128x640_d1_w32

/-- What trip `k` stores. -/
def tripOut (x0 : Vec Ideal S1x2048x128 .bf16) (x3 : Vec Ideal S2x128x640 .f32) (ky vy : Vec Ideal S2560x128 .bf16) (k : Fin k0_t1_loop.trips) :
    Vec Ideal S1x128x128 .bf16 :=
  k0_pay9 (kWin vy k) (k0_pay12 k0_pay7 lanes 0#32 1#32 k (qWin x0 k) (kWin ky k) (kWin vy k) (bWin x3 0))
    (k0_pay13 k0_pay8 lanes 0#32 1#32 k (qWin x0 k) (kWin ky k) (bWin x3 1))

/-- The whole output block, row by row the trip that wrote it. -/
def blockOut (x0 : Vec Ideal S1x2048x128 .bf16) (x3 : Vec Ideal S2x128x640 .f32) (ky vy : Vec Ideal S2560x128 .bf16) : Vec Ideal S1x2048x128 .bf16 :=
  fun y => tripOut x0 x3 ky vy ⟨(y 1).val / 128, by have : (y 1).val < 2048 := (y 1).isLt; show _ < 16; omega⟩
    (ix3 0 ⟨(y 1).val % 128, Nat.mod_lt _ (by norm_num)⟩ (y 2))

/-- Row `128 k + r` of the block is row `r` of trip `k`. -/
theorem blockOut_of (x0 : Vec Ideal S1x2048x128 .bf16) (x3 : Vec Ideal S2x128x640 .f32) (ky vy : Vec Ideal S2560x128 .bf16)
    (k : Fin k0_t1_loop.trips) (x : S1x128x128.Idx) (y : S1x2048x128.Idx) (h1 : (y 1).val = 128 * k.val + (x 1).val)
    (h2 : (y 2).val = (x 2).val) : blockOut x0 x3 ky vy y = tripOut x0 x3 ky vy k x := by
  have hx : (x 1).val < 128 := (x 1).isLt
  have hk : (⟨(y 1).val / 128, by have : (y 1).val < 2048 := (y 1).isLt; show _ < 16; omega⟩ : Fin k0_t1_loop.trips) = k :=
    Fin.ext (by show (y 1).val / 128 = k.val; omega)
  have hj : (ix3 0 ⟨(y 1).val % 128, Nat.mod_lt _ (by norm_num)⟩ (y 2) : S1x128x128.Idx) = x := by
    funext a
    apply Fin.ext
    fin_cases a
    · show 0 = (x 0).val
      have : (x 0).val < 1 := (x 0).isLt
      omega
    · show (y 1).val % 128 = (x 1).val
      omega
    · exact h2
  unfold blockOut
  rw [hk, hj]

/-- Where trip `k`'s stores go. -/
theorem off1_at (k : Fin k0_t1_loop.trips) (x : S1x128x128.Idx) :
    ((Rect.unit (s := S1x2048x128) (k0_off1 k) S1x128x128.size (k0_off1_inb k)).emb x 1).val = 128 * k.val + (x 1).val
    ∧ ((Rect.unit (s := S1x2048x128) (k0_off1 k) S1x128x128.size (k0_off1_inb k)).emb x 2).val = (x 2).val := by
  constructor
  · show (k0_off1 k) 1 + 1 * (x 1).val = 128 * k.val + (x 1).val
    rw [k0_off1_eq k]
    show 128 * k.val + 1 * (x 1).val = 128 * k.val + (x 1).val
    omega
  · show (k0_off1 k) 2 + 1 * (x 2).val = (x 2).val
    rw [k0_off1_eq k]
    show 0 + 1 * (x 2).val = (x 2).val
    omega

/-- The rows trip `k` stores. -/
theorem mem_off1 (k : Fin k0_t1_loop.trips) (y : S1x2048x128.Idx) (h0 : 128 * k.val ≤ (y 1).val) (h1 : (y 1).val < 128 * k.val + 128) :
    y ∈ (Rect.unit (s := S1x2048x128) (k0_off1 k) S1x128x128.size (k0_off1_inb k)).set := by
  rw [Rect.mem_set_unit]
  intro a
  rw [k0_off1_eq k]
  fin_cases a
  · show 0 ≤ (y 0).val ∧ (y 0).val < 0 + 1
    have : (y 0).val < 1 := (y 0).isLt
    omega
  · exact ⟨h0, h1⟩
  · show 0 ≤ (y 2).val ∧ (y 2).val < 0 + 128
    have : (y 2).val < 128 := (y 2).isLt
    omega

section Pieces

variable (𝒱 : Variants) (c : Dev nD) (bd : Option 𝒱.V) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S2x128x640 .f32) (harg5 : arg5.IsWhole) (arg6 : Memref sig .tc .vmem S1x2048x128 .bf16) (harg6 : arg6.IsWhole) (arg7 : Memref sig .tc .vmem S2560x128 .bf16) (harg7 : arg7.IsWhole) (arg8 : Memref sig .tc .vmem S2560x128 .bf16) (harg8 : arg8.IsWhole) (X2 : BufTy.Contents (Elt Ideal) arg2.view.ty) (X5 : BufTy.Contents (Elt Ideal) arg5.view.ty) (X7 : BufTy.Contents (Elt Ideal) arg7.view.ty) (X8 : BufTy.Contents (Elt Ideal) arg8.view.ty)

/-- A load of trip `k`'s query rows. -/
theorem load_q (k : Fin k0_t1_loop.trips) :
    View.readAt (Elt Ideal) arg2.view (Rect.unit (s := S1x2048x128) (k0_off1 k) S1x128x128.size (k0_off1_inb k)).toLoadRect X2
      = qWin (arg2.view.read (Elt Ideal) X2) k := by
  funext j
  show arg2.view.read (Elt Ideal) X2 _ = arg2.view.read (Elt Ideal) X2 _
  congr 1
  funext a
  apply Fin.ext
  fin_cases a
  · show (k0_off1 k) 0 + 1 * (j 0).val = 0
    have e : (k0_off1 k) 0 = 0 := congrFun (k0_off1_eq k) 0
    have : (j 0).val < 1 := (j 0).isLt
    omega
  · show (k0_off1 k) 1 + 1 * (j 1).val = 128 * k.val + (j 1).val
    have e : (k0_off1 k) 1 = 128 * k.val := congrFun (k0_off1_eq k) 1
    omega
  · show (k0_off1 k) 2 + 1 * (j 2).val = (j 2).val
    have e : (k0_off1 k) 2 = 0 := congrFun (k0_off1_eq k) 2
    omega

/-- A load of trip `k`'s window of padded rows. -/
theorem load_k (k : Fin k0_t1_loop.trips) :
    View.readAt (Elt Ideal) arg7.view (Rect.unit (s := S2560x128) (k0_off2 k) S640x128.size (k0_off2_inb k)).toLoadRect X7
      = kWin (arg7.view.read (Elt Ideal) X7) k := by
  funext j
  show arg7.view.read (Elt Ideal) X7 _ = arg7.view.read (Elt Ideal) X7 _
  congr 1
  funext a
  apply Fin.ext
  fin_cases a
  · show (k0_off2 k) 0 + 1 * (j 0).val = 128 * k.val + (j 0).val
    have e : (k0_off2 k) 0 = 128 * k.val := congrFun (k0_off2_eq k) 0
    omega
  · show (k0_off2 k) 1 + 1 * (j 1).val = (j 1).val
    have e : (k0_off2 k) 1 = 0 := congrFun (k0_off2_eq k) 1
    omega

/-- A load of the first head's bias. -/
theorem load_b0 :
    View.readAt (Elt Ideal) arg5.view (Rect.unit (s := S2x128x640) ![0, 0, 0] S1x128x640.size inb_S2x128x640_S1x128x640_0_0_0).toLoadRect X5
      = bWin (arg5.view.read (Elt Ideal) X5) 0 := by
  funext j
  show arg5.view.read (Elt Ideal) X5 _ = arg5.view.read (Elt Ideal) X5 _
  congr 1
  funext a
  apply Fin.ext
  fin_cases a
  · show 0 + 1 * (j 0).val = 0
    have : (j 0).val < 1 := (j 0).isLt
    omega
  · show 0 + 1 * (j 1).val = (j 1).val
    omega
  · show 0 + 1 * (j 2).val = (j 2).val
    omega

/-- A load of the second head's bias. -/
theorem load_b1 :
    View.readAt (Elt Ideal) arg5.view (Rect.unit (s := S2x128x640) ![1, 0, 0] S1x128x640.size inb_S2x128x640_S1x128x640_1_0_0).toLoadRect X5
      = bWin (arg5.view.read (Elt Ideal) X5) 1 := by
  funext j
  show arg5.view.read (Elt Ideal) X5 _ = arg5.view.read (Elt Ideal) X5 _
  congr 1
  funext a
  apply Fin.ext
  fin_cases a
  · show 1 + 1 * (j 0).val = 1
    have : (j 0).val < 1 := (j 0).isLt
    omega
  · show 0 + 1 * (j 1).val = (j 1).val
    omega
  · show 0 + 1 * (j 2).val = (j 2).val
    omega

/-- Trip `k` makes one store, of `tripOut`. -/
theorem trip_pieces (k : Fin k0_t1_loop.trips) :
    tripL_k0_t1 (F := Ideal) 𝒱 c bd i arg2 harg2 arg3 harg3 arg4 harg4 arg5 harg5 arg6 harg6 arg7 harg7 arg8 harg8 lanes X2 X5 X7 X8 k
      = [⟨Rect.unit (k0_off1 k) S1x128x128.size (k0_off1_inb k),
          tripOut (arg2.view.read (Elt Ideal) X2) (arg5.view.read (Elt Ideal) X5) (arg7.view.read (Elt Ideal) X7) (arg8.view.read (Elt Ideal) X8) k⟩] := by
  unfold tripL_k0_t1 trip_k0_t1 trip_k0_t1.sl.r trip_k0_t1.sl.r_1 trip_k0_t1.sl.r_2
  unfold tripOut
  rw [← load_q, ← load_k, ← load_k, ← load_b0, ← load_b1]

/-- Every piece of the first `n` trips agrees with `blockOut`, and together they cover the first `128 n` rows. -/
theorem pieces (n : ℕ) (hn : n ≤ 16) :
    (∀ p ∈ pb_k0_t1 (F := Ideal) 𝒱 c bd i arg2 harg2 arg3 harg3 arg4 harg4 arg5 harg5 arg6 harg6 arg7 harg7 arg8 harg8 lanes X2 X5 X7 X8 n,
      ∀ x : p.1.shape.Idx, p.2 x = blockOut (arg2.view.read (Elt Ideal) X2) (arg5.view.read (Elt Ideal) X5) (arg7.view.read (Elt Ideal) X7) (arg8.view.read (Elt Ideal) X8) (p.1.emb x))
    ∧ ∀ y : S1x2048x128.Idx, (y 1).val < 128 * n →
      ∃ p ∈ pb_k0_t1 (F := Ideal) 𝒱 c bd i arg2 harg2 arg3 harg3 arg4 harg4 arg5 harg5 arg6 harg6 arg7 harg7 arg8 harg8 lanes X2 X5 X7 X8 n, y ∈ p.1.set := by
  induction n with
  | zero =>
    refine ⟨fun p hp => ?_, fun y hy => by omega⟩
    exact absurd hp (by rw [pb_k0_t1]; exact List.not_mem_nil)
  | succ n ih =>
    obtain ⟨ih1, ih2⟩ := ih (by omega)
    have e := pb_k0_t1_succ (F := Ideal) 𝒱 c bd i arg2 harg2 arg3 harg3 arg4 harg4 arg5 harg5 arg6 harg6 arg7 harg7 arg8 harg8 lanes X2 X5 X7 X8 ⟨n, show n < 16 by omega⟩
    rw [trip_pieces] at e
    have e' : pb_k0_t1 (F := Ideal) 𝒱 c bd i arg2 harg2 arg3 harg3 arg4 harg4 arg5 harg5 arg6 harg6 arg7 harg7 arg8 harg8 lanes X2 X5 X7 X8 (n + 1) = _ := e
    rw [e']
    refine ⟨fun p hp x => ?_, fun y hy => ?_⟩
    · rcases List.mem_cons.mp hp with rfl | hp
      · exact (blockOut_of _ _ _ _ ⟨n, show n < 16 by omega⟩ x _ (off1_at _ x).1 (off1_at _ x).2).symm
      · exact ih1 p hp x
    · by_cases hy' : (y 1).val < 128 * n
      · obtain ⟨p, hp, hm⟩ := ih2 y hy'
        exact ⟨p, List.mem_cons_of_mem _ hp, hm⟩
      · refine ⟨_, List.mem_cons_self, ?_⟩
        exact mem_off1 ⟨n, show n < 16 by omega⟩ y (show 128 * n ≤ (y 1).val by omega) (show (y 1).val < 128 * n + 128 by omega)

end Pieces

/-- A scratch buffer after the zeros and the copy of a block: the padded block. -/
theorem padded_read (arg3 : Memref sig .tc .vmem S1x2048x128 .bf16) (harg3 : arg3.IsWhole) (arg7 : Memref sig .tc .vmem S2560x128 .bf16)
    (x1 : Vec Ideal S1x2048x128 .bf16) (w : FVec Ideal S512x128 .bf16) (hw : ∀ x, w x = (0 : EReal)) (f : arg7.view.ty.Contents (Elt Ideal))
    (g : FVec Ideal S2048x128 .bf16) (hg : ∀ x : S2048x128.Idx, g x = x1 (ix3 0 (x 0) (x 1))) :
    arg7.view.read (Elt Ideal) (arg7.view.writes (Elt Ideal) f
        [⟨Rect.unit (s := S2560x128) ![512, 0] S2048x128.size inb_S2560x128_S2048x128_512_0, g⟩,
          ⟨Rect.unit (s := S2560x128) ![0, 0] S512x128.size inb_S2560x128_S512x128_0_0, w⟩])
      = padded x1 := by
  funext y
  refine View.read_writes_apply_of_pieces arg7.view f (padded x1) _ ?_ y ?_
  · intro p hp x
    rcases List.mem_cons.mp hp with rfl | hp
    · have h0 : ((Rect.unit (s := S2560x128) ![512, 0] S2048x128.size inb_S2560x128_S2048x128_512_0).emb x 0).val = 512 + (x 0).val := by
        show 512 + 1 * (x 0).val = _; omega
      have h1 : ((Rect.unit (s := S2560x128) ![512, 0] S2048x128.size inb_S2560x128_S2048x128_512_0).emb x 1).val = (x 1).val := by
        show 0 + 1 * (x 1).val = _; omega
      show g x = padded x1 _
      unfold padded
      rw [dif_neg (by rw [h0]; omega), hg]
      congr 1
      funext a
      apply Fin.ext
      fin_cases a
      · rfl
      · show (x 0).val = _ - 512
        rw [h0]; omega
      · exact h1.symm
    · rcases List.mem_cons.mp hp with rfl | hp
      · have h0 : ((Rect.unit (s := S2560x128) ![0, 0] S512x128.size inb_S2560x128_S512x128_0_0).emb x 0).val = (x 0).val := by
          show 0 + 1 * (x 0).val = _; omega
        have hx : (x 0).val < 512 := (x 0).isLt
        show w x = padded x1 _
        unfold padded
        rw [dif_pos (by rw [h0]; omega), hw]
      · exact absurd hp List.not_mem_nil
  · by_cases h : (y 0).val < 512
    · refine ⟨_, List.mem_cons_of_mem _ List.mem_cons_self, ?_⟩
      rw [Rect.mem_set_unit]
      intro a
      fin_cases a
      · show 0 ≤ (y 0).val ∧ (y 0).val < 0 + 512
        omega
      · show 0 ≤ (y 1).val ∧ (y 1).val < 0 + 128
        have : (y 1).val < 128 := (y 1).isLt
        omega
    · refine ⟨_, List.mem_cons_self, ?_⟩
      rw [Rect.mem_set_unit]
      intro a
      fin_cases a
      · show 512 ≤ (y 0).val ∧ (y 0).val < 512 + 2048
        have : (y 0).val < 2560 := (y 0).isLt
        omega
      · show 0 ≤ (y 1).val ∧ (y 1).val < 0 + 128
        have : (y 1).val < 128 := (y 1).isLt
        omega

/-- A whole load of a buffer holding a block. -/
theorem load_whole (arg3 : Memref sig .tc .vmem S1x2048x128 .bf16) (harg3 : arg3.IsWhole) (x1 : Vec Ideal S1x2048x128 .bf16) :
    View.readAt (Elt Ideal) arg3.view (Rect.unit (s := S1x2048x128) ![0, 0, 0] S1x2048x128.size inb_S1x2048x128_S1x2048x128_0_0_0).toLoadRect (harg3.unread x1) = x1 := by
  funext j
  show arg3.view.read (Elt Ideal) (harg3.unread x1) _ = _
  rw [harg3.read_unread]
  congr 1
  funext a
  apply Fin.ext
  fin_cases a
  · show 0 + 1 * (j 0).val = (j 0).val
    omega
  · show 0 + 1 * (j 1).val = (j 1).val
    omega
  · show 0 + 1 * (j 2).val = (j 2).val
    omega

theorem zeros_k (x : S512x128.Idx) : (k0_pay2 (F := Ideal)) x = (0 : EReal) := by
  pointwise [k0_pay2, k0_pay1]

theorem zeros_v (x : S512x128.Idx) : (k0_pay3 (F := Ideal)) x = (0 : EReal) := by
  pointwise [k0_pay3, k0_pay1]

theorem copy_k (x1 : Vec Ideal S1x2048x128 .bf16) (x : S2048x128.Idx) : k0_pay4 x1 x = x1 (ix3 0 (x 0) (x 1)) := by
  pointwise [k0_pay4]

theorem copy_v (x1 : Vec Ideal S1x2048x128 .bf16) (x : S2048x128.Idx) : k0_pay5 x1 x = x1 (ix3 0 (x 0) (x 1)) := by
  pointwise [k0_pay5]

/-- The output block of a grid point, from its query, key, value and bias blocks. -/
theorem out_at (m : (ℓ : Loc nD τ sig) → Buf (Elt Ideal) ℓ) (c : Dev nD) (t : Fin cfg0.N) (y : S1x2048x128.Idx) :
    outsAt0 m c t y = blockOut (iblk m c 0 t) (iblk m c 3 t) (padded (iblk m c 1 t)) (padded (iblk m c 2 t)) y := by
  unfold outsAt0 out0_A_4 kernelRun0_A kernelRun0_A.sl.HS0_2 kernelRun0_A.sl.HS1_2 kernelRun0_A.sl.v27
  dsimp only
  rw [load_whole (ms0_1 t), load_whole (ms0_2 t)]
  have h := pieces Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    ((hs0_0 t).unread (iblk m c 0 t)) ((hs0_3 t).unread (iblk m c 3 t))
    (scM0_0.view.writes (Elt Ideal) scM0_0.view.junk [⟨Rect.unit (s := S2560x128) ![512, 0] S2048x128.size inb_S2560x128_S2048x128_512_0, k0_pay4 (iblk m c 1 t)⟩,
          ⟨Rect.unit (s := S2560x128) ![0, 0] S512x128.size inb_S2560x128_S512x128_0_0, k0_pay2 (F := Ideal)⟩])
    (scM0_1.view.writes (Elt Ideal) scM0_1.view.junk [⟨Rect.unit (s := S2560x128) ![512, 0] S2048x128.size inb_S2560x128_S2048x128_512_0, k0_pay5 (iblk m c 2 t)⟩,
          ⟨Rect.unit (s := S2560x128) ![0, 0] S512x128.size inb_S2560x128_S512x128_0_0, k0_pay3 (F := Ideal)⟩])
    16 le_rfl
  rw [(hs0_0 t).read_unread, (hs0_3 t).read_unread, padded_read (ms0_1 t) (hs0_1 t) _ (iblk m c 1 t) _ zeros_k _ _ (copy_k _),
    padded_read (ms0_2 t) (hs0_2 t) _ (iblk m c 2 t) _ zeros_v _ _ (copy_v _)] at h
  exact View.read_writes_apply_of_pieces VO0_4 _ _ _ h.1 y (h.2 y (by have : (y 1).val < 2048 := (y 1).isLt; omega))

end Cert.BandIdeal.Val
end
-- ==== Proof.Softmax.lean ====
module

public import proofs.«01_k».proof.Proof.Norm

/-!
# The softmax average over the extended reals, and over a wider window

`average s v` divides once at the end, as the kernel does; `weighted s v` divides every weight, as the reference does.
They agree once the denominator is not zero, which one finite logit and no infinite one give. A window that is wider than
the band it must look at does no harm when the logits outside the band are `⊥`: `exp ⊥ = 0`.
-/

@[expose] public section

noncomputable section

open Idealize.ShloMosaic

namespace Cert.Soft

variable {n m : ℕ}

/-- The largest logit. -/
def top (s : Fin n → EReal) : EReal := Finset.fold max ⊥ s Finset.univ

/-- The unnormalised weight. -/
def weight (s : Fin n → EReal) (j : Fin n) : EReal := Ideal.exp (s j - top s)

/-- The sum of the unnormalised weights. -/
def total (s : Fin n → EReal) : EReal := ∑ j, weight s j

/-- The average of the values: the weighted sum divided by the total. -/
def average (s v : Fin n → EReal) : EReal := Ideal.div (∑ j, weight s j * v j) (total s)

/-- The average of the values: every weight divided by the total, then summed. -/
def weighted (s v : Fin n → EReal) : EReal := ∑ j, v j * Ideal.div (weight s j) (total s)

theorem top_eq_sup (s : Fin n → EReal) : top s = Finset.univ.sup s := rfl

theorem le_top' (s : Fin n → EReal) (j : Fin n) : s j ≤ top s := by
  rw [top_eq_sup]; exact Finset.le_sup (Finset.mem_univ j)

theorem top_le (s : Fin n → EReal) (b : EReal) (h : ∀ j, s j ≤ b) : top s ≤ b := by
  rw [top_eq_sup]; exact Finset.sup_le fun j _ => h j

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- `⊥` less anything is `⊥`. -/
theorem bot_sub (x : EReal) : ⊥ - x = (⊥ : EReal) := by rw [sub_eq_add_neg, EReal.bot_add]

/-- A logit of `⊥` weighs nothing. -/
theorem weight_bot (s : Fin n → EReal) (j : Fin n) (h : s j = ⊥) : weight s j = 0 := by
  unfold weight; rw [h, bot_sub]; rfl

/-- The largest logit is one of them. -/
theorem exists_top (s : Fin n → EReal) (j₀ : Fin n) : ∃ j, s j = top s := by
  have hne : (Finset.univ : Finset (Fin n)).Nonempty := ⟨j₀, Finset.mem_univ _⟩
  obtain ⟨j, _, hj⟩ := Finset.exists_mem_eq_sup _ hne s
  exact ⟨j, by rw [top_eq_sup, hj]⟩

/-- With one finite logit and none infinite, the total is not zero. -/
theorem total_ne_zero (s : Fin n → EReal) (j₀ : Fin n) (h₀ : s j₀ ≠ ⊥) (h : ∀ j, s j ≠ ⊤) : total s ≠ 0 := by
  obtain ⟨j, hj⟩ := exists_top s j₀
  have hb : s j ≠ ⊥ := fun e => h₀ (le_bot_iff.mp (e ▸ hj ▸ le_top' s j₀))
  have h1 : weight s j = 1 := by
    unfold weight
    rw [← hj]
    lift s j to ℝ using ⟨h j, hb⟩ with r
    rw [← EReal.coe_sub, sub_self, Ideal.exp_coe, Real.exp_zero]; rfl
  have h2 : weight s j ≤ total s := Finset.single_le_sum (f := weight s) (fun i _ => exp_nonneg _) (Finset.mem_univ j)
  rw [h1] at h2
  exact (lt_of_lt_of_le (by norm_num) h2).ne'

/-- A weighted sum divided by a nonnegative total that is not zero is the sum of the divided terms. -/
theorem div_sum {ι : Type*} (s : Finset ι) (p v : ι → EReal) (d : EReal) (h0 : 0 ≤ d) (hd : d ≠ 0) :
    Ideal.div (∑ j ∈ s, p j * v j) d = ∑ j ∈ s, v j * Ideal.div (p j) d := by
  obtain ⟨c, hc, e⟩ : ∃ c : ℝ, 0 ≤ c ∧ d⁻¹ = (c : EReal) := by
    induction d using EReal.rec with
    | bot => exact absurd h0 (by simp)
    | top => exact ⟨0, le_rfl, by simp⟩
    | coe r => exact ⟨r⁻¹, inv_nonneg.mpr (by exact_mod_cast h0), by rw [EReal.coe_inv]⟩
  unfold Ideal.div
  simp only [if_neg hd, e]
  rw [Cert.Norm.sum_mul_coe _ _ _ hc]
  exact Finset.sum_congr rfl fun j _ => by rw [mul_comm (p j), mul_assoc]

theorem total_nonneg (s : Fin n → EReal) : 0 ≤ total s := Finset.sum_nonneg fun j _ => exp_nonneg _

/-- The two ways of dividing agree. -/
theorem average_eq_weighted (s v : Fin n → EReal) (h : total s ≠ 0) : average s v = weighted s v :=
  div_sum _ _ _ _ (total_nonneg s) h

/-- A wider window whose other logits are `⊥` has the same largest logit … -/
theorem top_window (e : Fin n → Fin m) (S : Fin m → EReal) (s : Fin n → EReal)
    (hS : ∀ j, S (e j) = s j) (hoff : ∀ w, w ∉ Set.range e → S w = ⊥) : top S = top s := by
  apply le_antisymm
  · refine top_le _ _ fun w => ?_
    by_cases hw : w ∈ Set.range e
    · obtain ⟨j, rfl⟩ := hw
      rw [hS]; exact le_top' s j
    · rw [hoff w hw]; exact bot_le
  · exact top_le _ _ fun j => by rw [← hS]; exact le_top' S (e j)

/-- … and the same average. -/
theorem average_window (e : Fin n → Fin m) (he : Function.Injective e) (S V : Fin m → EReal) (s v : Fin n → EReal)
    (hS : ∀ j, S (e j) = s j) (hV : ∀ j, V (e j) = v j) (hoff : ∀ w, w ∉ Set.range e → S w = ⊥) :
    average S V = average s v := by
  have hw : ∀ j, weight S (e j) = weight s j := fun j => by
    unfold weight; rw [hS, top_window e S s hS hoff]
  have ht : total S = total s := by
    unfold total
    exact (Fintype.sum_of_injective e he _ _ (fun w hw' => weight_bot S w (hoff w hw')) fun j => (hw j).symm).symm
  unfold average
  rw [ht]
  congr 1
  refine (Fintype.sum_of_injective e he _ _ (fun w hw' => ?_) fun j => ?_).symm
  · rw [weight_bot S w (hoff w hw'), zero_mul]
  · rw [hw, hV]

end Cert.Soft
end
-- ==== Proof.BandKernel.lean ====
module

public import proofs.«01_k».proof.Proof.BandRun
public import proofs.«01_k».proof.Proof.Softmax

/-!
# The banded attention: one row of one trip as a softmax average

Row `r`, lane `n` of what trip `k` stores is the average of the value lane over the 640 positions of the window, with the
logits of the head the lane belongs to. The head's lanes are picked by multiplying the queries with a mask of zeros and
ones; the positions before the sequence have logit `⊥`.
-/

@[expose] public section

set_option maxRecDepth 16384

noncomputable section

open Idealize.ShloMosaic Idealize.ShloMosaic.TcCoe Idealize.SL.Sem

namespace Cert.BandIdeal.Val
open Cert.BandIdeal Cert.BandIdeal.Gen Cert.Soft

/-- The float word of −∞. -/
theorem ofBits_bot : Ideal.ofBits .f32 0xFF800000#32 = ⊥ := by
  simp [Ideal.ofBits, Ideal.ieee]

/-- The lane mask of head `h` at lane `l`. -/
def headMask (h : Fin 2) (l : Fin 128) : EReal := if l.val / 64 = h.val then 1 else 0

/-- The logit of window position `w` for query row `r` of trip `k`, head `h` of the pair. -/
def logit (x0 : Vec Ideal S1x2048x128 .bf16) (x3 : Vec Ideal S2x128x640 .f32) (ky : Vec Ideal S2560x128 .bf16) (k : Fin k0_t1_loop.trips)
    (h : Fin 2) (r : Fin 128) (w : Fin 640) : EReal :=
  if 512 ≤ 128 * k.val + w.val then
    (∑ l : Fin 128, qWin x0 k (ix3 0 r l) * headMask h l * kWin ky k (ix2 w l)) + x3 (ix3 h r w)
  else ⊥

theorem below_bit : ∀ l : Fin 128, IntOp.cmpi CmpIPredicate.slt (BitVec.ofNat 32 l.val) 64#32 = if l.val < 64 then 1#1 else 0#1 := by
  decide +kernel

theorem valid_bit : ∀ (k : Fin k0_t1_loop.trips) (w : Fin 640),
    IntOp.cmpi CmpIPredicate.sge (BitVec.ofNat 32 w.val) (Scalar.subi 512#32 (Scalar.muli (Scf.iv 0#32 1#32 k) 128#32))
      = if 512 ≤ 128 * k.val + w.val then 1#1 else 0#1 := by
  decide +kernel

theorem valid_at (k : Fin k0_t1_loop.trips) (r : Fin 128) (w : Fin 640) :
    k0_pay11 lanes 0#32 1#32 k (ix2 r w) = if 512 ≤ 128 * k.val + w.val then 1#1 else 0#1 := by
  rw [← valid_bit]
  pointwise [k0_pay11, lanes]

theorem float_one : (FloatOps.sitofp FTy.f32 (1#32) : Ideal .f32) = (1 : EReal) := by
  show ((((1#32 : BitVec 32).toInt : ℤ) : ℝ) : EReal) = 1
  have e : (1#32 : BitVec 32).toInt = 1 := by decide
  rw [e, Int.cast_one, EReal.coe_one]

theorem float_zero : (FloatOps.sitofp FTy.f32 (0#32) : Ideal .f32) = (0 : EReal) := by
  show ((((0#32 : BitVec 32).toInt : ℤ) : ℝ) : EReal) = 0
  have e : (0#32 : BitVec 32).toInt = 0 := by decide
  rw [e, Int.cast_zero, EReal.coe_zero]

theorem mask0 (l : Fin 128) : (k0_pay7 (F := Ideal)) (ix2 0 l) = headMask 0 l := by
  have e : (k0_pay7 (F := Ideal)) (ix2 0 l)
      = (FloatOps.sitofp FTy.f32 (BitVec.setWidth 32 (IntOp.cmpi CmpIPredicate.slt (BitVec.ofNat 32 l.val) 64#32)) : Ideal FTy.f32) := by
    pointwise [k0_pay7, k0_pay6]
  rw [e, below_bit]
  by_cases h : l.val < 64
  · have h' : l.val / 64 = (0 : Fin 2).val := by show _ = 0; omega
    unfold headMask
    rw [if_pos h, if_pos h']
    exact float_one
  · have h' : ¬ l.val / 64 = (0 : Fin 2).val := by show ¬ _ = 0; omega
    unfold headMask
    rw [if_neg h, if_neg h']
    exact float_zero

theorem mask1 (l : Fin 128) : (k0_pay8 (F := Ideal)) (ix2 0 l) = headMask 1 l := by
  have hl := l.isLt
  have e : (k0_pay8 (F := Ideal)) (ix2 0 l)
      = (FloatOps.sitofp FTy.f32 (BitVec.setWidth 32 (IntOp.xori (IntOp.cmpi CmpIPredicate.slt (BitVec.ofNat 32 l.val) 64#32) 1#1)) : Ideal FTy.f32) := by
    pointwise [k0_pay8, k0_pay6]
  rw [e, below_bit]
  by_cases h : l.val < 64
  · have h' : ¬ l.val / 64 = (1 : Fin 2).val := by show ¬ _ = 1; omega
    unfold headMask
    rw [if_pos h, if_neg h']
    exact float_zero
  · have h' : l.val / 64 = (1 : Fin 2).val := by show _ = 1; omega
    unfold headMask
    rw [if_neg h, if_pos h']
    exact float_one

/-- Choosing by the valid bit is the logit. -/
theorem select_logit (k : Fin k0_t1_loop.trips) (r : Fin 128) (w : Fin 640) (a : EReal) :
    Scalar.select (k0_pay11 lanes 0#32 1#32 k (ix2 r w)) a (⊥ : EReal) = if 512 ≤ 128 * k.val + w.val then a else ⊥ := by
  rw [valid_at]
  by_cases h : 512 ≤ 128 * k.val + w.val
  · simp only [if_pos h]; rfl
  · simp only [if_neg h]; rfl

/-- The second head's masked logits. -/
theorem logits1 (x0 : Vec Ideal S1x2048x128 .bf16) (x3 : Vec Ideal S2x128x640 .f32) (ky : Vec Ideal S2560x128 .bf16)
    (k : Fin k0_t1_loop.trips) (r : Fin 128) (w : Fin 640) :
    k0_pay13 (k0_pay8 (F := Ideal)) lanes 0#32 1#32 k (qWin x0 k) (kWin ky k) (bWin x3 1) (ix2 r w) = logit x0 x3 ky k 1 r w := by
  unfold logit
  generalize qWin x0 k = q
  generalize kWin ky k = K
  pointwise [k0_pay13, k0_pay10, mask1, select_logit, bWin, ofBits_bot]

/-- The first head's average. -/
theorem average0 (x0 : Vec Ideal S1x2048x128 .bf16) (x3 : Vec Ideal S2x128x640 .f32) (ky vy : Vec Ideal S2560x128 .bf16)
    (k : Fin k0_t1_loop.trips) (r n : Fin 128) :
    k0_pay12 (k0_pay7 (F := Ideal)) lanes 0#32 1#32 k (qWin x0 k) (kWin ky k) (kWin vy k) (bWin x3 0) (ix2 r n)
      = average (logit x0 x3 ky k 0 r) (fun w => kWin vy k (ix2 w n)) := by
  unfold average total weight top logit
  generalize qWin x0 k = q
  generalize kWin ky k = K
  generalize kWin vy k = V
  pointwise [k0_pay12, k0_pay10, mask0, select_logit, bWin, ofBits_bot]

/-- What a trip stores, at an index. -/
theorem trip_at (x0 : Vec Ideal S1x2048x128 .bf16) (x3 : Vec Ideal S2x128x640 .f32) (ky vy : Vec Ideal S2560x128 .bf16)
    (k : Fin k0_t1_loop.trips) (r n : Fin 128) (h : Fin 2) (hn : n.val / 64 = h.val) :
    tripOut x0 x3 ky vy k (ix3 0 r n) = average (logit x0 x3 ky k h r) (fun w => kWin vy k (ix2 w n)) := by
  have hl := n.isLt
  unfold tripOut
  pointwise [k0_pay9, k0_pay6, logits1, average0]
  rw [below_bit]
  by_cases hh : n.val < 64
  · have e : h = 0 := Fin.ext (by show h.val = 0; omega)
    subst e
    simp only [if_pos hh]
    rfl
  · have e : h = 1 := Fin.ext (by show h.val = 1; omega)
    subst e
    simp only [if_neg hh, ofBits_bot]
    rfl

end Cert.BandIdeal.Val
end
-- ==== Proof.Gather.lean ====
module

public import proofs.«01_k».proof.Proof.Norm

/-!
# The two gathers at an index

`table[rel]` for a table of rows and a matrix of row numbers, and `x[:, positions]` for a sequence and a matrix of
positions. In both the row number is read signed and clamped into the operand's range.
-/

@[expose] public section

set_option maxRecDepth 16384

noncomputable section

open Idealize.ShloMosaic Idealize.ShloMosaic.TcCoe

namespace Cert.Gather

variable {α : Type}

/-- The dimension numbers of `table[rel]`. -/
abbrev tableDims (N H A B : Nat)
    (wf : GatherDims.WF ⟨2, ![N, H]⟩ ⟨3, ![A, B, 1]⟩ ⟨3, ![A, B, H]⟩ [2] [0] [] [0] [] 2 ![1, H]) :
    GatherDims ⟨2, ![N, H]⟩ ⟨3, ![A, B, 1]⟩ ⟨3, ![A, B, H]⟩ where
  offsetDims := [2]
  collapsedSliceDims := [0]
  operandBatchingDims := []
  startIndicesBatchingDims := []
  startIndexMap := [0]
  indexVectorDim := 2
  sliceSizes := ![1, H]
  wf := wf

/-- `table[rel]` at `(a, b, h)`: head `h` of the row numbered at `(a, b)`. -/
theorem table_at {N H A B : Nat} (hN : 0 < N)
    (wf : GatherDims.WF ⟨2, ![N, H]⟩ ⟨3, ![A, B, 1]⟩ ⟨3, ![A, B, H]⟩ [2] [0] [] [0] [] 2 ![1, H])
    (x : (⟨2, ![N, H]⟩ : Shape).Idx → α) (idx : IVec ⟨3, ![A, B, 1]⟩ 32) (a : Fin A) (b : Fin B) (h : Fin H) :
    Host.gather (tableDims N H A B wf) x idx (ix3 a b h)
      = x (ix2 ⟨min (idx (ix3 a b (0 : Fin 1))).toInt.toNat (N - 1), by omega⟩ h) := by
  unfold Host.gather
  refine congrArg x (funext fun z => Fin.ext ?_)
  show (tableDims N H A B wf).start (ix3 a b h) idx z + (tableDims N H A B wf).batchCoord (ix3 a b h) z
      + (tableDims N H A B wf).offCoord (ix3 a b h) z = _
  rw [GatherDims.batchCoord_eq_zero _ _ _ List.not_mem_nil, Nat.add_zero]
  have hz : z = 0 ∨ z = 1 := by
    match z with
    | ⟨0, _⟩ => exact Or.inl rfl
    | ⟨1, _⟩ => exact Or.inr rfl
  rcases hz with rfl | rfl
  · have hk : (0 : Fin 2) ∉ (tableDims N H A B wf).sKept := fun e => ((GatherDims.mem_sKept _ _).1 e).1 (List.mem_singleton.2 rfl)
    rw [GatherDims.offCoord_eq_zero _ _ _ hk, Nat.add_zero]
    unfold GatherDims.start
    rw [dif_pos (show (0 : Fin 2) ∈ (tableDims N H A B wf).startIndexMap from List.mem_singleton.2 rfl)]
    have hsi : (tableDims N H A B wf).siIdx (ix3 a b h) ⟨List.idxOf (0 : Fin 2) (tableDims N H A B wf).startIndexMap,
        List.idxOf_lt_length_iff.2 (List.mem_singleton.2 rfl)⟩ = ix3 a b (0 : Fin 1) := by
      funext d
      refine Fin.ext ?_
      match d with
      | ⟨0, _⟩ => rfl
      | ⟨1, _⟩ => rfl
      | ⟨2, _⟩ => rfl
    exact congrArg (fun i => min (idx i).toInt.toNat (N - 1)) hsi
  · have hm : (1 : Fin 2) ∉ (tableDims N H A B wf).startIndexMap := show (1 : Fin 2) ∉ ([0] : List (Fin 2)) from by decide
    have hk : (1 : Fin 2) ∈ (tableDims N H A B wf).sKept := (GatherDims.mem_sKept _ _).2 ⟨show (1 : Fin 2) ∉ ([0] : List (Fin 2)) from by decide, List.not_mem_nil⟩
    unfold GatherDims.start GatherDims.offCoord
    rw [dif_neg hm, dif_pos hk, Nat.zero_add]
    rfl

/-- The dimension numbers of `x[:, positions]`. -/
abbrev rowsDims (B S H D C J : Nat)
    (wf : GatherDims.WF ⟨4, ![B, S, H, D]⟩ ⟨3, ![C, J, 1]⟩ ⟨5, ![B, C, J, H, D]⟩ [0, 3, 4] [1] [] [1] [] 2 ![B, 1, H, D]) :
    GatherDims ⟨4, ![B, S, H, D]⟩ ⟨3, ![C, J, 1]⟩ ⟨5, ![B, C, J, H, D]⟩ where
  offsetDims := [0, 3, 4]
  collapsedSliceDims := [1]
  operandBatchingDims := []
  startIndicesBatchingDims := []
  startIndexMap := [1]
  indexVectorDim := 2
  sliceSizes := ![B, 1, H, D]
  wf := wf

/-- `x[:, positions]` at `(b, c, j, h, d)`: the element of the position numbered at `(c, j)`. -/
theorem rows_at {B S H D C J : Nat} (hS : 0 < S)
    (wf : GatherDims.WF ⟨4, ![B, S, H, D]⟩ ⟨3, ![C, J, 1]⟩ ⟨5, ![B, C, J, H, D]⟩ [0, 3, 4] [1] [] [1] [] 2 ![B, 1, H, D])
    (x : (⟨4, ![B, S, H, D]⟩ : Shape).Idx → α) (idx : IVec ⟨3, ![C, J, 1]⟩ 32)
    (b : Fin B) (c : Fin C) (j : Fin J) (h : Fin H) (d : Fin D) :
    Host.gather (rowsDims B S H D C J wf) x idx (ix5 b c j h d)
      = x (ix4 b ⟨min (idx (ix3 c j (0 : Fin 1))).toInt.toNat (S - 1), by omega⟩ h d) := by
  unfold Host.gather
  refine congrArg x (funext fun z => Fin.ext ?_)
  show (rowsDims B S H D C J wf).start (ix5 b c j h d) idx z + (rowsDims B S H D C J wf).batchCoord (ix5 b c j h d) z
      + (rowsDims B S H D C J wf).offCoord (ix5 b c j h d) z = _
  rw [GatherDims.batchCoord_eq_zero _ _ _ List.not_mem_nil, Nat.add_zero]
  have hz : z = 1 ∨ z = 0 ∨ z = 2 ∨ z = 3 := by
    match z with
    | ⟨0, _⟩ => exact Or.inr (Or.inl rfl)
    | ⟨1, _⟩ => exact Or.inl rfl
    | ⟨2, _⟩ => exact Or.inr (Or.inr (Or.inl rfl))
    | ⟨3, _⟩ => exact Or.inr (Or.inr (Or.inr rfl))
  rcases hz with rfl | rfl | rfl | rfl
  · have hk : (1 : Fin 4) ∉ (rowsDims B S H D C J wf).sKept := fun e => ((GatherDims.mem_sKept _ _).1 e).1 (List.mem_singleton.2 rfl)
    rw [GatherDims.offCoord_eq_zero _ _ _ hk, Nat.add_zero]
    unfold GatherDims.start
    rw [dif_pos (show (1 : Fin 4) ∈ (rowsDims B S H D C J wf).startIndexMap from List.mem_singleton.2 rfl)]
    have hsi : (rowsDims B S H D C J wf).siIdx (ix5 b c j h d) ⟨List.idxOf (1 : Fin 4) (rowsDims B S H D C J wf).startIndexMap,
        List.idxOf_lt_length_iff.2 (List.mem_singleton.2 rfl)⟩ = ix3 c j (0 : Fin 1) := by
      funext d
      refine Fin.ext ?_
      match d with
      | ⟨0, _⟩ => rfl
      | ⟨1, _⟩ => rfl
      | ⟨2, _⟩ => rfl
    exact congrArg (fun i => min (idx i).toInt.toNat (S - 1)) hsi
  · have hm : (0 : Fin 4) ∉ (rowsDims B S H D C J wf).startIndexMap := show (0 : Fin 4) ∉ ([1] : List (Fin 4)) from by decide
    have hk : (0 : Fin 4) ∈ (rowsDims B S H D C J wf).sKept := (GatherDims.mem_sKept _ _).2 ⟨show (0 : Fin 4) ∉ ([1] : List (Fin 4)) from by decide, List.not_mem_nil⟩
    unfold GatherDims.start GatherDims.offCoord
    rw [dif_neg hm, dif_pos hk, Nat.zero_add]
    rfl
  · have hm : (2 : Fin 4) ∉ (rowsDims B S H D C J wf).startIndexMap := show (2 : Fin 4) ∉ ([1] : List (Fin 4)) from by decide
    have hk : (2 : Fin 4) ∈ (rowsDims B S H D C J wf).sKept := (GatherDims.mem_sKept _ _).2 ⟨show (2 : Fin 4) ∉ ([1] : List (Fin 4)) from by decide, List.not_mem_nil⟩
    unfold GatherDims.start GatherDims.offCoord
    rw [dif_neg hm, dif_pos hk, Nat.zero_add]
    rfl
  · have hm : (3 : Fin 4) ∉ (rowsDims B S H D C J wf).startIndexMap := show (3 : Fin 4) ∉ ([1] : List (Fin 4)) from by decide
    have hk : (3 : Fin 4) ∈ (rowsDims B S H D C J wf).sKept := (GatherDims.mem_sKept _ _).2 ⟨show (3 : Fin 4) ∉ ([1] : List (Fin 4)) from by decide, List.not_mem_nil⟩
    unfold GatherDims.start GatherDims.offCoord
    rw [dif_neg hm, dif_pos hk, Nat.zero_add]
    rfl

/-! ## The clipped distance as a row number -/

/-- The row number the host code makes of the distance word `d`: clipped to ±128, shifted, and wrapped if negative. -/
def clipWord (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

theorem clip_nat : ∀ n : Fin 1280, min (clipWord (BitVec.ofNat 32 n.val - 128#32)).toInt.toNat 256 = min 256 n.val := by
  decide +kernel

/-- The row number for row `i` and position `j`, whose distance is `i − j + 512`. -/
theorem clip_row (i j : Nat) (hi : i < 640) (hj : j < 640) :
    min (clipWord (IntOp.addi (IntOp.subi (BitVec.ofNat 32 i) (BitVec.ofNat 32 j)) 512#32)).toInt.toNat 256
      = min 256 (i + 640 - j) := by
  have h := clip_nat ⟨i + 640 - j, by omega⟩
  simp only at h
  rw [← h]
  have e : IntOp.addi (IntOp.subi (BitVec.ofNat 32 i) (BitVec.ofNat 32 j)) 512#32 = BitVec.ofNat 32 (i + 640 - j) - 128#32 := by
    show BitVec.ofNat 32 i - BitVec.ofNat 32 j + 512#32 = BitVec.ofNat 32 (i + 640 - j) - 128#32
    apply BitVec.eq_of_toNat_eq
    simp only [BitVec.toNat_add, BitVec.toNat_sub, BitVec.toNat_ofNat]
    omega
  rw [e]

end Cert.Gather
end
-- ==== Proof.BandBias.lean ====
module

public import proofs.«01_k».proof.Proof.BandKernel
public import proofs.«01_k».proof.Proof.Gather

/-!
# The bias block the banded attention's host code prepares

At row `r` and window position `w` of a head: the bias table's row for the clipped distance where the position's chunk is
the row's chunk or one of the eight before it (counted in the window), `⊥` elsewhere.
-/

@[expose] public section

set_option maxRecDepth 16384

noncomputable section

open Idealize.ShloMosaic Idealize.ShloMosaic.TcCoe Idealize.SL.Sem
open Idealize.ShloMosaic.Pipeline (Dat)

namespace Cert.BandIdeal.Val
open Cert.BandIdeal Cert.BandIdeal.Gen Cert.Soft

variable (m : (ℓ : Loc nD τ sig) → Buf (Elt Ideal) ℓ)

/-- Every window's block index at every grid point. -/
theorem idx : ∀ t : Fin cfg0.N, win0_0.index t = ![t.val / 8, 0, t.val % 8] ∧ win0_1.index t = ![t.val / 8, 0, t.val % 8 + 8]
    ∧ win0_2.index t = ![t.val / 8, 0, t.val % 8 + 16] ∧ win0_3.index t = ![t.val % 8, 0, 0] ∧ win0_4.index t = ![t.val / 8, 0, t.val % 8] :=
  (by decide +kernel : ∀ t : Fin grid0.N, _)

/-- The head that head `h` of point `t`'s pair is. -/
def headOf (t : Fin cfg0.N) (h : Fin 2) : Fin 16 := ⟨2 * (t.val % 8) + h.val, by omega⟩

/-- The bias table's rows picked by the kernel's host code. -/
theorem bias_gather {α : Type} (x : S257x16.Idx → α) (i : IVec S128x640x1 32) (a : Fin 128) (b : Fin 640) (h : Fin 16) :
    Host.gather gather_S257x16_S128x640x1_S128x640x16_2_0_n_n_0_2_116 x i (ix3 a b h)
      = x (ix2 ⟨min (i (ix3 a b (0 : Fin 1))).toInt.toNat 256, by omega⟩ h) :=
  Cert.Gather.table_at (by decide) _ x i a b h

/-- The rows' numbers down the bias block. -/
def rowWords : IVec S128x1 32 := broadcastInDim S128x1 ![0] bcast_S128_S128x1_0 (iotaInDim S128 32 0)

/-- The window positions along the bias block. -/
def colWords : IVec S1x640 32 := broadcastInDim S1x640 ![1] bcast_S640_S1x640_1 (iotaInDim S640 32 0)

/-- The distances. -/
def distWords : IVec S128x640 32 :=
  addi (subi (broadcastInDim S128x640 ![0, 1] bcast_S128x1_S128x640_0_1 rowWords)
      (broadcastInDim S128x640 ![0, 1] bcast_S1x640_S128x640_0_1 colWords))
    (broadcastInDim S128x640 ![] bcast_S_S128x640 (constantI S_ 32 512#32))

/-- The distances clipped. -/
def clipped (d : IVec S128x640 32) : IVec S128x640 32 :=
  minsi (broadcastInDim S128x640 ![] bcast_S_S128x640 (constantI S_ 32 128#32))
    (maxsi (broadcastInDim S128x640 ![] bcast_S_S128x640 (constantI S_ 32 4294967168#32)) d)

/-- The clipped distances shifted to start at zero. -/
def shifted (d : IVec S128x640 32) : IVec S128x640 32 := addi d (broadcastInDim S128x640 ![] bcast_S_S128x640 (constantI S_ 32 128#32))

/-- Row numbers as the gather takes them. -/
def wrapped (d : IVec S128x640 32) : IVec S128x640x1 32 :=
  broadcastInDim S128x640x1 ![0, 1] bcast_S128x640_S128x640x1_0_1
    (select (cmpi .slt d (broadcastInDim S128x640 ![] bcast_S_S128x640 (constantI S_ 32 0#32)))
      (addi d (broadcastInDim S128x640 ![] bcast_S_S128x640 (constantI S_ 32 257#32))) d)

/-- The row of the bias table at each place. -/
def relWords : IVec S128x640x1 32 := wrapped (shifted (clipped distWords))

/-- The rows' chunks. -/
def rowChunk : IVec S128x1 32 :=
  select
    (andi
      (cmpi .ne (signi rowWords) (broadcastInDim S128x1 ![] bcast_S_S128x1 (signi (constantI S_ 32 64#32))))
      (cmpi .ne (Host.remsi rowWords (broadcastInDim S128x1 ![] bcast_S_S128x1 (constantI S_ 32 64#32))) (broadcastInDim S128x1 ![] bcast_S_S128x1 (constantI S_ 32 0#32))))
    (subi (Host.divsi rowWords (broadcastInDim S128x1 ![] bcast_S_S128x1 (constantI S_ 32 64#32))) (broadcastInDim S128x1 ![] bcast_S_S128x1 (constantI S_ 32 1#32)))
    (Host.divsi rowWords (broadcastInDim S128x1 ![] bcast_S_S128x1 (constantI S_ 32 64#32)))

/-- The window positions' chunks. -/
def colChunk : IVec S1x640 32 :=
  select
    (andi
      (cmpi .ne (signi colWords) (broadcastInDim S1x640 ![] bcast_S_S1x640 (signi (constantI S_ 32 64#32))))
      (cmpi .ne (Host.remsi colWords (broadcastInDim S1x640 ![] bcast_S_S1x640 (constantI S_ 32 64#32))) (broadcastInDim S1x640 ![] bcast_S_S1x640 (constantI S_ 32 0#32))))
    (subi (Host.divsi colWords (broadcastInDim S1x640 ![] bcast_S_S1x640 (constantI S_ 32 64#32))) (broadcastInDim S1x640 ![] bcast_S_S1x640 (constantI S_ 32 1#32)))
    (Host.divsi colWords (broadcastInDim S1x640 ![] bcast_S_S1x640 (constantI S_ 32 64#32)))

/-- The bit of the places inside the band, of the rows' and the positions' chunks. -/
def bandWords (a : IVec S128x1 32) (b : IVec S1x640 32) : IVec S128x640 1 :=
  andi (cmpi .sge (broadcastInDim S128x640 ![0, 1] bcast_S1x640_S128x640_0_1 b) (broadcastInDim S128x640 ![0, 1] bcast_S128x1_S128x640_0_1 a))
    (cmpi .sle (broadcastInDim S128x640 ![0, 1] bcast_S1x640_S128x640_0_1 b)
      (broadcastInDim S128x640 ![0, 1] bcast_S128x1_S128x640_0_1 (addi a (broadcastInDim S128x1 ![] bcast_S_S128x1 (constantI S_ 32 8#32)))))

/-- The gathered table, head first. -/
def gathered (R : IVec S128x640x1 32) (x1 : Vec Ideal S257x16 .f32) : Vec Ideal S16x128x640 .f32 :=
  transpose S16x128x640 [2, 0, 1] (Host.gather gather_S257x16_S128x640x1_S128x640x16_2_0_n_n_0_2_116 x1 R)
    transposes_S128x640x16_S16x128x640_2_0_1

/-- The gathered table inside the band, `⊥` outside. -/
def biasArr (B : IVec S128x640 1) (G : Vec Ideal S16x128x640 .f32) : Vec Ideal S16x128x640 .f32 :=
  select (broadcastInDim S16x128x640 ![0, 1, 2] bcast_S1x128x640_S16x128x640_0_1_2 (broadcastInDim S1x128x640 ![1, 2] bcast_S128x640_S1x128x640_1_2 B))
    G (broadcastInDim S16x128x640 ![] bcast_S_S16x128x640 (constant (F := Ideal) S_ .f32 0xFF800000#32))

/-! ## The arrays when the kernel starts -/

theorem rowChunk_entry (c : Dev nD) : V m c main_v12 = rowChunk := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem colChunk_entry (c : Dev nD) : V m c main_v13 = colChunk := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem band_entry (c : Dev nD) : V m c main_v22 = bandWords (V m c main_v12) (V m c main_v13) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  unfold bandWords
  refine congrArg₂ andi (congrArg₂ (cmpi .sge) (congrArg _ ?_) (congrArg _ ?_)) (congrArg₂ (cmpi .sle) (congrArg _ ?_) (congrArg _ (congrArg₂ addi ?_ ?_)))
  · with_reducible rfl
  · with_reducible rfl
  · with_reducible rfl
  · with_reducible rfl
  · with_reducible rfl

theorem dist_entry (c : Dev nD) : V m c main_v8 = distWords := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem put_v9 (h1 h2 h3) (v) : (StableHlo.TRef.of (T := ⟨S128x640, .i32⟩) main_v9 h1 h2 h3).toBuf (Val := Elt Ideal) v = v := rfl
theorem get_v8 (h1 h2 h3) (v) : (StableHlo.TRef.of (T := ⟨S128x640, .i32⟩) main_v8 h1 h2 h3).ofBuf (Val := Elt Ideal) v = v := rfl
theorem get_c0 (h1 h2 h3) (v) : (StableHlo.TRef.of (T := ⟨S_, .i32⟩) main_c_0 h1 h2 h3).ofBuf (Val := Elt Ideal) v = v := rfl
theorem get_c1 (h1 h2 h3) (v) : (StableHlo.TRef.of (T := ⟨S_, .i32⟩) main_c_1 h1 h2 h3).ofBuf (Val := Elt Ideal) v = v := rfl

theorem clipped_entry (c : Dev nD) : V m c main_v9 = clipped (V m c main_v8) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  simp only [StableHlo.TRef.ofBuf_toBuf, put_v9, get_v8, get_c0, get_c1]
  rfl

theorem shifted_entry (c : Dev nD) : V m c main_v11 = shifted (V m c main_v9) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem wrapped_entry (c : Dev nD) : V m c main_v28 = wrapped (V m c main_v11) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem gathered_entry (c : Dev nD) : V m c main_v30 = gathered (V m c main_v28) (V m c main_arg1) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem bias_entry (c : Dev nD) : V m c main_v32 = biasArr (V m c main_v22) (V m c main_v30) := by
  unfold V
  simp only [List.flatten_cons, List.flatten_nil, List.append_nil, hostOps0, hostOps0_1, hostOps0_2, hostOps0_3, hostOps0_4, hostOps0_5, hostOps0_6, hostOps0_7,
    List.cons_append, List.nil_append]
  entry_read
  rfl

theorem rowChunk_at : ∀ r : Fin 128, rowChunk (ix2 r (0 : Fin 1)) = BitVec.ofNat 32 (r.val / 64) := by
  intro r
  pointwise [rowChunk, rowWords]
  revert r
  decide +kernel

theorem colChunk_at : ∀ w : Fin 640, colChunk (ix2 (0 : Fin 1) w) = BitVec.ofNat 32 (w.val / 64) := by
  intro w
  pointwise [colChunk, colWords]
  revert w
  decide +kernel

theorem band_bit : ∀ (a : Fin 2) (b : Fin 10), IntOp.andi (IntOp.cmpi CmpIPredicate.sge (BitVec.ofNat 32 b.val) (BitVec.ofNat 32 a.val))
    (IntOp.cmpi CmpIPredicate.sle (BitVec.ofNat 32 b.val) (IntOp.addi (BitVec.ofNat 32 a.val) 8#32))
      = if a.val ≤ b.val ∧ b.val ≤ a.val + 8 then 1#1 else 0#1 := by
  decide +kernel

theorem bandWords_at (r : Fin 128) (w : Fin 640) :
    bandWords rowChunk colChunk (ix2 r w) = if r.val / 64 ≤ w.val / 64 ∧ w.val / 64 ≤ r.val / 64 + 8 then 1#1 else 0#1 := by
  have h := band_bit ⟨r.val / 64, by omega⟩ ⟨w.val / 64, by omega⟩
  simp only at h
  rw [← h, ← rowChunk_at, ← colChunk_at]
  generalize rowChunk = a
  generalize colChunk = b
  pointwise [bandWords]

theorem relWords_at (r : Fin 128) (w : Fin 640) :
    min (relWords (ix3 r w (0 : Fin 1))).toInt.toNat 256 = min 256 (r.val + 640 - w.val) := by
  rw [← Cert.Gather.clip_row r.val w.val (by omega) (by omega)]
  refine congrArg (fun z : BitVec 32 => min z.toInt.toNat 256) ?_
  unfold Cert.Gather.clipWord
  pointwise [relWords, wrapped, shifted, clipped, distWords, rowWords, colWords]

theorem gathered_at (R : IVec S128x640x1 32) (x1 : Vec Ideal S257x16 .f32) (h : Fin 16) (r : Fin 128) (w : Fin 640) :
    gathered R x1 (ix3 h r w) = x1 (ix2 ⟨min (R (ix3 r w (0 : Fin 1))).toInt.toNat 256, by omega⟩ h) := by
  rw [← bias_gather x1 R r w h]
  unfold gathered
  generalize Host.gather gather_S257x16_S128x640x1_S128x640x16_2_0_n_n_0_2_116 x1 R = Y
  pointwise

theorem biasArr_at (B : IVec S128x640 1) (G : Vec Ideal S16x128x640 .f32) (h : Fin 16) (r : Fin 128) (w : Fin 640) :
    biasArr B G (ix3 h r w) = Scalar.select (B (ix2 r w)) (G (ix3 h r w)) (Ideal.ofBits .f32 0xFF800000#32) := by
  pointwise [biasArr]

/-- The staged bias block at an index. -/
theorem bias_at (c : Dev nD) (t : Fin (cfgs 0).N) (h : Fin 2) (r : Fin 128) (w : Fin 640) :
    iblk m c 3 t (ix3 h r w) = if r.val / 64 ≤ w.val / 64 ∧ w.val / 64 ≤ r.val / 64 + 8 then
        (show EReal from m ((c : Thread nD τ).loc main_arg1) (ix2 ⟨min 256 (r.val + 640 - w.val), by omega⟩ (headOf t h))) else ⊥ := by
  blk_simp [iblk]
  have he : ((View.whole main_v32).slice (win0_3.rect t)).emb (ix3 h r w) = (ix3 (headOf t h) r w : S16x128x640.Idx) := by
    blk_ext [idx t, headOf]
  rw [he, bias_entry, band_entry, rowChunk_entry, colChunk_entry, gathered_entry, wrapped_entry, shifted_entry, clipped_entry, dist_entry, biasArr_at, bandWords_at, ofBits_bot, show wrapped (shifted (clipped distWords)) = relWords from rfl, gathered_at]
  have er : (⟨min (relWords (ix3 r w (0 : Fin 1))).toInt.toNat 256, by omega⟩ : Fin 257) = ⟨min 256 (r.val + 640 - w.val), by omega⟩ :=
    Fin.ext (relWords_at r w)
  rw [er]
  by_cases hb : r.val / 64 ≤ w.val / 64 ∧ w.val / 64 ≤ r.val / 64 + 8
  · rw [if_pos hb, if_pos hb]; rfl
  · rw [if_neg hb, if_neg hb]; rfl

end Cert.BandIdeal.Val
end
-- ==== Proof.BandRef.lean ====
module

public import proofs.«01_k».proof.Proof.Gen.BandRefIdeal.Read
public import proofs.«01_k».proof.Proof.Gather
public import proofs.«01_k».proof.Proof.Softmax
public import Idealize.ShloMosaic.Lib.KernelVsHost

/-!
# The banded attention's reference at an index

The reference's chunked softmax, read at batch `b`, chunk `c`, row `i` of the chunk, head `h`, lane `d`: the weighted sum of
the 576 padded value rows of the chunk's window.
-/

@[expose] public section

set_option maxRecDepth 16384

noncomputable section

open Idealize.ShloMosaic Idealize.ShloMosaic.TcCoe Idealize.SL.Sem

namespace Cert.BandRefIdeal.Spec
open Cert.BandRefIdeal Cert.BandRefIdeal.Gen Cert.BandRefIdeal.Read Cert.Soft

/-- Column `col` of the sequence with 512 zero rows before it, at position `s`. -/
def padRow (x0 : Vec Ideal S16x2048x3072 .bf16) (b : Fin 16) (col : Fin 3072) (s : Fin 2560) : EReal :=
  if h : 512 ≤ s.val then x0 (ix3 b ⟨s.val - 512, by omega⟩ col) else 0

/-- Window position `j` of chunk `c` as a position of the padded sequence. -/
def at64 (c : Fin 32) (j : Fin 576) : Fin 2560 := ⟨64 * c.val + j.val, by omega⟩

/-- The row of the bias table for row `i` and window position `j`: the distance, clipped. -/
def relRow (i j : Nat) : Fin 257 := ⟨min 256 (i + 640 - j), by omega⟩

/-- A column of head `h`, of the part of the projections starting at column `o`. -/
def colOf (o : Nat) (ho : o ≤ 2048) (h : Fin 16) (d : Fin 64) : Fin 3072 := ⟨o + 64 * h.val + d.val, by omega⟩

/-- The logit of window position `j` for row `i` of chunk `c`, head `h`. -/
def logit (x0 : Vec Ideal S16x2048x3072 .bf16) (x1 : Vec Ideal S257x16 .f32) (b : Fin 16) (c : Fin 32) (h : Fin 16) (i : Fin 64)
    (j : Fin 576) : EReal :=
  if 512 ≤ 64 * c.val + j.val then
    (∑ d : Fin 64, x0 (ix3 b ⟨64 * c.val + i.val, by omega⟩ (colOf 0 (by omega) h d)) * padRow x0 b (colOf 1024 (by omega) h d) (at64 c j))
      + x1 (ix2 (relRow i.val j.val) h)
  else ⊥

/-- The queries of chunk `c`. -/
theorem query_at (x0 : Vec Ideal S16x2048x3072 .bf16) (b : Fin 16) (c : Fin 32) (i : Fin 64) (h : Fin 16) (d : Fin 64) :
    val_main_v39 (F := Ideal) x0 (ix5 b c i h d) = x0 (ix3 b ⟨64 * c.val + i.val, by omega⟩ (colOf 0 (by omega) h d)) := by
  pointwise [val_main_v39, val_main_v3, val_main_v2, val_main_v1, val_main_v0]
  unfold colOf
  congr 2 <;> (refine Fin.ext ?_; dsimp only; omega)

theorem pad_word0 (i : S_.Idx) : val_main_call0_v0 (F := Ideal) i = (0 : EReal) := by
  show ((((0#32 : BitVec 32).toInt : ℤ) : ℝ) : EReal) = 0
  have e : (0#32 : BitVec 32).toInt = 0 := by decide
  rw [e, Int.cast_zero, EReal.coe_zero]

theorem pad_word1 (i : S_.Idx) : val_main_call1_v0 (F := Ideal) i = (0 : EReal) := by
  show ((((0#32 : BitVec 32).toInt : ℤ) : ℝ) : EReal) = 0
  have e : (0#32 : BitVec 32).toInt = 0 := by decide
  rw [e, Int.cast_zero, EReal.coe_zero]

/-- The padded keys. -/
theorem pad_k (x0 : Vec Ideal S16x2048x3072 .bf16) (b : Fin 16) (s : Fin 2560) (h : Fin 16) (d : Fin 64) :
    val_main_v8 (F := Ideal) x0 (ix4 b s h d) = padRow x0 b (colOf 1024 (by omega) h d) s := by
  have hs := s.isLt
  unfold padRow
  pointwise [val_main_v8, val_main_v5, val_main_v4, val_main_v1, val_main_v0]
  by_cases hh : 512 ≤ s.val
  · rw [dif_pos ⟨hh, by omega⟩, dif_pos hh]
    unfold colOf
    congr 2
    refine Fin.ext ?_; dsimp only; omega
  · rw [dif_neg (fun e => hh e.1), dif_neg hh, pad_word0]

/-- The padded values. -/
theorem pad_v (x0 : Vec Ideal S16x2048x3072 .bf16) (b : Fin 16) (s : Fin 2560) (h : Fin 16) (d : Fin 64) :
    val_main_v9 (F := Ideal) x0 (ix4 b s h d) = padRow x0 b (colOf 2048 (by omega) h d) s := by
  have hs := s.isLt
  unfold padRow
  pointwise [val_main_v9, val_main_v7, val_main_v6, val_main_v1, val_main_v0]
  by_cases hh : 512 ≤ s.val
  · rw [dif_pos ⟨hh, by omega⟩, dif_pos hh]
    unfold colOf
    congr 2
    refine Fin.ext ?_; dsimp only; omega
  · rw [dif_neg (fun e => hh e.1), dif_neg hh, pad_word1]

/-! ## The words -/

theorem pos_word : ∀ n : Fin 2560, min (Scalar.select (IntOp.cmpi CmpIPredicate.slt (BitVec.ofNat 32 n.val) 0#32)
    (IntOp.addi (BitVec.ofNat 32 n.val) 2560#32) (BitVec.ofNat 32 n.val)).toInt.toNat 2559 = n.val := by
  decide +kernel

theorem valid_word : ∀ n : Fin 2560, IntOp.cmpi CmpIPredicate.sge (IntOp.subi (BitVec.ofNat 32 n.val) 512#32) 0#32
    = if 512 ≤ n.val then 1#1 else 0#1 := by
  decide +kernel

/-- The padded position of window position `j` of chunk `c`, as a word. -/
theorem pos_bits (c : Fin 32) (j : Fin 576) : val_main_v38 (F := Ideal) (ix2 c j) = BitVec.ofNat 32 (64 * c.val + j.val) := by
  have e : val_main_v38 (F := Ideal) (ix2 c j) = BitVec.ofNat 32 c.val * 64#32 + BitVec.ofNat 32 j.val := by
    pointwise [val_main_v38, val_main_v37, val_main_v36, val_main_v35, val_main_v34, val_main_v33, val_main_v32, val_main_v31, val_main_v30,
      val_main_c_7]
    rfl
  rw [e]
  apply BitVec.eq_of_toNat_eq
  simp only [BitVec.toNat_add, BitVec.toNat_mul, BitVec.toNat_ofNat]
  omega

theorem pos_at (c : Fin 32) (j : Fin 576) :
    min (val_main_v45 (F := Ideal) (ix3 c j (0 : Fin 1))).toInt.toNat 2559 = 64 * c.val + j.val := by
  have h := pos_word (at64 c j)
  pointwise [val_main_v45, val_main_v44, val_main_v43, val_main_v42, val_main_v41, val_main_v40, pos_bits, val_main_c_8, val_main_c_9]
  exact h

theorem pos_at' (c : Fin 32) (j : Fin 576) :
    min (val_main_v52 (F := Ideal) (ix3 c j (0 : Fin 1))).toInt.toNat 2559 = 64 * c.val + j.val := by
  have h := pos_word (at64 c j)
  pointwise [val_main_v52, val_main_v51, val_main_v50, val_main_v49, val_main_v48, val_main_v47, pos_bits, val_main_c_10, val_main_c_11]
  exact h

theorem valid_at (c : Fin 32) (j : Fin 576) :
    val_main_v61 (F := Ideal) (ix2 c j) = if 512 ≤ 64 * c.val + j.val then 1#1 else 0#1 := by
  have h := valid_word (at64 c j)
  pointwise [val_main_v61, val_main_v60, val_main_c_13, val_main_v59, val_main_v58, val_main_c_12, pos_bits]
  exact h

theorem rel_at (i : Fin 64) (j : Fin 576) :
    min (val_main_v27 (F := Ideal) (ix3 i j (0 : Fin 1))).toInt.toNat 256 = min 256 (i.val + 640 - j.val) := by
  rw [← Cert.Gather.clip_row i.val j.val (by omega) (by omega)]
  refine congrArg (fun z : BitVec 32 => min z.toInt.toNat 256) ?_
  unfold Cert.Gather.clipWord
  pointwise [val_main_v27, val_main_v26, val_main_v25, val_main_v24, val_main_v23, val_main_v22, val_main_v21, val_main_v20, val_main_v19,
    val_main_call2_v4, val_main_call2_v3, val_main_call2_v2, val_main_call2_v1, val_main_call2_v0,
    val_main_v18, val_main_v17, val_main_v16, val_main_v15, val_main_v14, val_main_v13, val_main_v12, val_main_v11, val_main_v10,
    val_main_c_1, val_main_c_2, val_main_c_3, val_main_c_4, val_main_c_5, val_main_c_6]
  rfl

/-! ## The gathers -/

theorem rows_gather {α : Type} (x : S16x2560x16x64.Idx → α) (i : IVec S32x576x1 32) (b : Fin 16) (c : Fin 32) (j : Fin 576) (h : Fin 16) (d : Fin 64) :
    Host.gather gather_S16x2560x16x64_S32x576x1_S16x32x576x16x64_034_1_n_n_1_2_1611664 x i (ix5 b c j h d)
      = x (ix4 b ⟨min (i (ix3 c j (0 : Fin 1))).toInt.toNat 2559, by omega⟩ h d) :=
  Cert.Gather.rows_at (by decide) _ x i b c j h d

theorem table_gather {α : Type} (x : S257x16.Idx → α) (i : IVec S64x576x1 32) (a : Fin 64) (b : Fin 576) (h : Fin 16) :
    Host.gather gather_S257x16_S64x576x1_S64x576x16_2_0_n_n_0_2_116 x i (ix3 a b h)
      = x (ix2 ⟨min (i (ix3 a b (0 : Fin 1))).toInt.toNat 256, by omega⟩ h) :=
  Cert.Gather.table_at (by decide) _ x i a b h

/-- The keys of a chunk's window. -/
theorem key_at (x0 : Vec Ideal S16x2048x3072 .bf16) (b : Fin 16) (c : Fin 32) (j : Fin 576) (h : Fin 16) (d : Fin 64) :
    val_main_v46 (F := Ideal) x0 (ix5 b c j h d) = padRow x0 b (colOf 1024 (by omega) h d) (at64 c j) := by
  unfold val_main_v46
  rw [rows_gather, pad_k]
  exact congrArg _ (Fin.ext (pos_at c j))

/-- The values of a chunk's window. -/
theorem value_at (x0 : Vec Ideal S16x2048x3072 .bf16) (b : Fin 16) (c : Fin 32) (j : Fin 576) (h : Fin 16) (d : Fin 64) :
    val_main_v53 (F := Ideal) x0 (ix5 b c j h d) = padRow x0 b (colOf 2048 (by omega) h d) (at64 c j) := by
  unfold val_main_v53
  rw [rows_gather, pad_v]
  exact congrArg _ (Fin.ext (pos_at' c j))

/-- The bias of a row and a window position. -/
theorem bias_at (x1 : Vec Ideal S257x16 .f32) (h : Fin 16) (i : Fin 64) (j : Fin 576) :
    val_main_v29 (F := Ideal) x1 (ix3 h i j) = x1 (ix2 (relRow i.val j.val) h) := by
  pointwise [val_main_v29]
  unfold val_main_v28
  rw [table_gather]
  exact congrArg (fun q => x1 (ix2 q h)) (Fin.ext (rel_at i j))

theorem ofBits_bot : Ideal.ofBits .f32 0xFF800000#32 = ⊥ := by
  simp [Ideal.ofBits, Ideal.ieee]

/-- The masked logits. -/
theorem logit_at (x0 : Vec Ideal S16x2048x3072 .bf16) (x1 : Vec Ideal S257x16 .f32) (b : Fin 16) (c : Fin 32) (h : Fin 16) (i : Fin 64)
    (j : Fin 576) : val_main_v63 (F := Ideal) x0 x1 (ix5 b c h i j) = logit x0 x1 b c h i j := by
  unfold logit
  pointwise [val_main_v63, val_main_call3_v0, val_main_call3_v1, val_main_call3_v2, val_main_cst, val_main_v62, valid_at, val_main_v57, val_main_v56, val_main_v55,
    bias_at, val_main_v54, query_at, key_at, ofBits_bot]
  by_cases hv : 512 ≤ 64 * c.val + j.val
  · rw [if_pos hv, if_pos hv]; rfl
  · rw [if_neg hv, if_neg hv]; rfl

end Cert.BandRefIdeal.Spec
end
-- ==== Proof.BandRefSum.lean ====
module

public import proofs.«01_k».proof.Proof.BandRef
public import proofs.«01_k».proof.Proof.Gather
public import proofs.«01_k».proof.Proof.Softmax
public import Idealize.ShloMosaic.Lib.KernelVsHost

/-! The banded attention's reference: the softmax and the weighted sum over the logits, at an index. -/

@[expose] public section

set_option maxRecDepth 16384

noncomputable section

open Idealize.ShloMosaic Idealize.ShloMosaic.TcCoe Idealize.SL.Sem

namespace Cert.BandRefIdeal.Spec
open Cert.BandRefIdeal Cert.BandRefIdeal.Gen Cert.BandRefIdeal.Read Cert.Soft

/-- The row's largest logit. -/
theorem top_at (x0 : Vec Ideal S16x2048x3072 .bf16) (x1 : Vec Ideal S257x16 .f32) (b : Fin 16) (c : Fin 32) (h : Fin 16) (i : Fin 64) :
    val_main_v64 (F := Ideal) x0 x1 (ix4 b c h i) = top (logit x0 x1 b c h i) := by
  unfold top
  have e : logit x0 x1 b c h i = fun j => val_main_v63 (F := Ideal) x0 x1 (ix5 b c h i j) := funext fun j => (logit_at x0 x1 b c h i j).symm
  rw [e]
  unfold val_main_v64
  generalize val_main_v63 (F := Ideal) x0 x1 = Y
  pointwise [val_main_cst_14, ofBits_bot]

theorem max_bot (x : EReal) : max ⊥ x = x := max_eq_right bot_le

/-- The exponentials. -/
theorem exp_at (x0 : Vec Ideal S16x2048x3072 .bf16) (x1 : Vec Ideal S257x16 .f32) (b : Fin 16) (c : Fin 32) (h : Fin 16) (i : Fin 64)
    (j : Fin 576) : val_main_v70 (F := Ideal) x0 x1 (ix5 b c h i j) = weight (logit x0 x1 b c h i) j := by
  unfold weight
  rw [← logit_at, ← top_at, val_main_v70_apply, val_main_v69_apply, val_main_v68_apply, val_main_v67_apply, val_main_v66_apply]
  have e : idx_main_v67 (idx_main_v68 (ix5 b c h i j)) = ix4 b c h i := by funext a; match a with
    | ⟨0, _⟩ => rfl
    | ⟨1, _⟩ => rfl
    | ⟨2, _⟩ => rfl
    | ⟨3, _⟩ => rfl
  rw [e]
  have hb : val_main_v65 (F := Ideal) (ix4 b c h i) = (⊥ : EReal) := by
    rw [val_main_v65_apply]
    exact ofBits_bot
  rw [hb]
  generalize val_main_v63 (F := Ideal) x0 x1 (ix5 b c h i j) = y
  generalize val_main_v64 (F := Ideal) x0 x1 (ix4 b c h i) = t
  show Ideal.exp (y - max ⊥ t) = Ideal.exp (y - t)
  rw [max_bot]

/-- The row's denominator. -/
theorem total_at (x0 : Vec Ideal S16x2048x3072 .bf16) (x1 : Vec Ideal S257x16 .f32) (b : Fin 16) (c : Fin 32) (h : Fin 16) (i : Fin 64) :
    val_main_v71 (F := Ideal) x0 x1 (ix4 b c h i) = total (logit x0 x1 b c h i) := by
  unfold total
  rw [val_main_v71_apply]
  have z : (val_main_cst_16 (F := Ideal)) (Shape.Idx.first h_S_) = (0 : EReal) := by
    show Ideal.ofBits .f32 0#32 = 0
    simp [Ideal.ofBits, Ideal.ieee]
  rw [z, zero_add]
  refine Finset.sum_congr rfl fun j _ => ?_
  have e : idx_main_v71 (ix4 b c h i) j = ix5 b c h i j := by funext a; match a with
    | ⟨0, _⟩ => rfl
    | ⟨1, _⟩ => rfl
    | ⟨2, _⟩ => rfl
    | ⟨3, _⟩ => rfl
    | ⟨4, _⟩ => rfl
  rw [e, exp_at]

/-- The weights. -/
theorem quot_at (x0 : Vec Ideal S16x2048x3072 .bf16) (x1 : Vec Ideal S257x16 .f32) (b : Fin 16) (c : Fin 32) (h : Fin 16) (i : Fin 64)
    (j : Fin 576) : val_main_v74 (F := Ideal) x0 x1 (ix5 b c h i j) = Ideal.div (weight (logit x0 x1 b c h i) j) (total (logit x0 x1 b c h i)) := by
  rw [← exp_at, ← total_at]
  unfold val_main_v74 val_main_v73 val_main_v72
  generalize val_main_v70 (F := Ideal) x0 x1 = E
  generalize val_main_v71 (F := Ideal) x0 x1 = T
  pointwise

/-- The weighted sums. -/
theorem weighted_at (x0 : Vec Ideal S16x2048x3072 .bf16) (x1 : Vec Ideal S257x16 .f32) (b : Fin 16) (c : Fin 32) (h : Fin 16) (d i : Fin 64) :
    val_main_v75 (F := Ideal) x0 x1 (ix5 b c h d i)
      = weighted (logit x0 x1 b c h i) (fun j => padRow x0 b (colOf 2048 (by omega) h d) (at64 c j)) := by
  unfold weighted
  rw [val_main_v75_apply]
  refine Finset.sum_congr rfl fun j _ => ?_
  have e1 : lidx_main_v75 (ix5 b c h d i) j = ix5 b c j h d := by funext a; match a with
    | ⟨0, _⟩ => rfl
    | ⟨1, _⟩ => rfl
    | ⟨2, _⟩ => rfl
    | ⟨3, _⟩ => rfl
    | ⟨4, _⟩ => rfl
  have e2 : ridx_main_v75 (ix5 b c h d i) j = ix5 b c h i j := by funext a; match a with
    | ⟨0, _⟩ => rfl
    | ⟨1, _⟩ => rfl
    | ⟨2, _⟩ => rfl
    | ⟨3, _⟩ => rfl
    | ⟨4, _⟩ => rfl
  rw [e1, e2, value_at, quot_at]

/-- The reference's result at row `64 c + i`, column `64 h + d`. -/
theorem ref_at (x0 : Vec Ideal S16x2048x3072 .bf16) (x1 : Vec Ideal S257x16 .f32) (b : Fin 16) (r : Fin 2048) (n : Fin 1024) :
    val_main_v78 (F := Ideal) x0 x1 (ix3 b r n)
      = weighted (logit x0 x1 b ⟨r.val / 64, by omega⟩ ⟨n.val / 64, by omega⟩ ⟨r.val % 64, by omega⟩)
          (fun j => padRow x0 b (colOf 2048 (by omega) ⟨n.val / 64, by omega⟩ ⟨n.val % 64, by omega⟩) (at64 ⟨r.val / 64, by omega⟩ j)) := by
  rw [← weighted_at]
  unfold val_main_v78 val_main_v77 val_main_v76
  generalize val_main_v75 (F := Ideal) x0 x1 = Y
  pointwise

end Cert.BandRefIdeal.Spec
end
-- ==== Proof.Finite.lean ====
module

public import proofs.«01_k».proof.Pre_band_finite
public import proofs.«01_k».proof.Pre_stick_finite
public import Idealize.ShloMosaic.Lib.Pipeline.ValueKit

/-!
# What the preconditions of the two attentions say

Every query, every key and every bias is a real number; of the values nothing is asked. Real numbers are closed under the
sums and products of a logit.
-/

@[expose] public section

set_option maxRecDepth 16384

noncomputable section

open Idealize.ShloMosaic Idealize.ShloMosaic.TcCoe Idealize.SL.Sem

namespace Cert.Finite

/-- A value that is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) :=
  Finset.sum_induction f IsReal (fun _ _ => IsReal.add) isReal_zero fun i _ => h i

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

theorem and_one : ∀ a b : BitVec 1, IntOp.andi a b = 1#1 → a = 1#1 ∧ b = 1#1 := by decide

/-- A conjunction of bits that is one has every bit one. -/
theorem fold_and {α : Type} (g : α → BitVec 1) (l : List α) (a : BitVec 1) (h : l.foldl (fun r n => IntOp.andi r (g n)) a = 1#1) :
    a = 1#1 ∧ ∀ n ∈ l, g n = 1#1 := by
  induction l generalizing a with
  | nil => exact ⟨h, fun n hn => absurd hn List.not_mem_nil⟩
  | cons b l ih =>
    obtain ⟨h1, h2⟩ := ih _ h
    obtain ⟨h3, h4⟩ := and_one _ _ h1
    refine ⟨h3, fun n hn => ?_⟩
    rcases List.mem_cons.mp hn with rfl | hn
    · exact h4
    · exact h2 n hn

/-- The conjunction over a whole array. -/
theorem reduce_and {s t u : Shape} {axes : List (Fin s.rank)} (ht : t.rank = 0) (x : IVec s 1) (init : IVec u 1) (h : s.ReducesTo axes t)
    (hu : 0 < u.numel) (j : t.Idx) (e : Host.reduce IntOp.andi x init h hu j = 1#1) (i : s.Idx) : x i = 1#1 := by
  unfold Host.reduce at e
  obtain ⟨_, h2⟩ := fold_and (fun n => x (s.rowMajor.symm n)) _ _ e
  have h3 := h2 (s.rowMajor i) (List.mem_filter.mpr ⟨List.mem_finRange _, decide_eq_true (funext fun a => absurd a.isLt (by omega))⟩)
  rwa [Equiv.symm_apply_apply] at h3

theorem ofBits_top : Ideal.ofBits .f32 0x7F800000#32 = ⊤ := by simp [Ideal.ofBits, Ideal.ieee]

/-- A value whose size is below infinity is a real number. -/
theorem isReal_of_lt (x : EReal) (h : FloatOps.cmpf (F := Ideal) (φ := .f32) .olt (FloatOps.absf (F := Ideal) (φ := .f32) x) (Ideal.ofBits .f32 0x7F800000#32) = 1#1) :
    IsReal x := by
  rw [ofBits_top] at h
  induction x using EReal.rec with
  | coe r => exact ⟨r, rfl⟩
  | top => exact absurd (show Ideal.cmp .olt (max (⊤ : EReal) (-⊤)) ⊤ = 1#1 from h) (by simp [Ideal.cmp])
  | bot => exact absurd (show Ideal.cmp .olt (max (⊥ : EReal) (-⊥)) ⊤ = 1#1 from h) (by simp [Ideal.cmp])

/-- An entry before column 2048 is an entry of the slice. -/
theorem slice_at (x : FVec Ideal Pre_band_finite.S16x2048x3072 .bf16)
    (h : Pre_band_finite.S16x2048x3072.Slices ![0, 0, 0] Pre_band_finite.S16x2048x2048) (b : Fin 16) (t : Fin 2048) (c : Fin 3072)
    (hc : c.val < 2048) :
    extractStridedSlice Pre_band_finite.S16x2048x2048 ![0, 0, 0] x h (ix3 b t ⟨c.val, hc⟩) = x (ix3 b t c) := by
  refine extractStridedSlice_apply ![0, 0, 0] x h _ (ix3 b t c) fun a => ?_
  match a with
  | ⟨0, _⟩ => show b.val = 0 + b.val; omega
  | ⟨1, _⟩ => show t.val = 0 + t.val; omega
  | ⟨2, _⟩ => show c.val = 0 + c.val; omega

/-- The shape relations the banded attention's predicate takes. -/
theorem facts : Cert.Pre_band_finite.Facts where
  slices_S16x2048x3072_S16x2048x2048_0_0_0 := by decide
  bitsLt_bf16_f32 := by decide
  bcast_S_S16x2048x2048 := by decide
  reducesTo_S16x2048x2048_S_d0_1_2 := by decide
  h_S_ := by decide
  bcast_S_S257x16 := by decide
  reducesTo_S257x16_S_d0_1 := by decide

/-- The shape relations the stick-breaking attention's predicate takes. -/
theorem stickFacts : Cert.Pre_stick_finite.Facts where
  slices_S16x2048x3072_S16x2048x2048_0_0_0 := by decide
  bitsLt_bf16_f32 := by decide
  bcast_S_S16x2048x2048 := by decide
  reducesTo_S16x2048x2048_S_d0_1_2 := by decide
  h_S_ := by decide

theorem of_pre [Cert.Pre_band_finite.Facts] (x0 : FVec Ideal Pre_band_finite.S16x2048x3072 .bf16) (x1 : FVec Ideal Pre_band_finite.S257x16 .f32)
    (h : Cert.Pre_band_finite.fn (F := Ideal) x0 x1 = fun _ => 1#1) :
    (∀ (b : Fin 16) (t : Fin 2048) (c : Fin 3072), c.val < 2048 → IsReal (x0 (ix3 b t c))) ∧ ∀ i, IsReal (x1 i) := by
  have e := congrFun h (fun a : Fin 0 => a.elim0)
  unfold Cert.Pre_band_finite.fn at e
  obtain ⟨e0, e1⟩ := and_one _ _ e
  refine ⟨fun b t c hc => ?_, fun i => isReal_of_lt _ (reduce_and rfl _ _ _ _ _ e1 i)⟩
  have r := isReal_of_lt _ (reduce_and rfl _ _ _ _ _ e0 (ix3 b t ⟨c.val, hc⟩))
  rw [← slice_at x0 Cert.Pre_band_finite.Facts.slices_S16x2048x3072_S16x2048x2048_0_0_0 b t c hc]
  exact r

theorem of_stickPre [Cert.Pre_stick_finite.Facts] (x0 : FVec Ideal Pre_stick_finite.S16x2048x3072 .bf16)
    (h : Cert.Pre_stick_finite.fn (F := Ideal) x0 = fun _ => 1#1) :
    ∀ (b : Fin 16) (t : Fin 2048) (c : Fin 3072), c.val < 2048 → IsReal (x0 (ix3 b t c)) := by
  have e := congrFun h (fun a : Fin 0 => a.elim0)
  unfold Cert.Pre_stick_finite.fn at e
  intro b t c hc
  have r := isReal_of_lt _ (reduce_and rfl _ _ _ _ _ e (ix3 b t ⟨c.val, hc⟩))
  rw [← slice_at x0 Cert.Pre_stick_finite.Facts.slices_S16x2048x3072_S16x2048x2048_0_0_0 b t c hc]
  exact r

end Cert.Finite
end
-- ==== Proof.BandWin.lean ====
module

public import proofs.«01_k».proof.Proof.BandKernel
public import proofs.«01_k».proof.Proof.BandBias
public import proofs.«01_k».proof.Proof.BandRefSum
public import proofs.«01_k».proof.Proof.Finite

/-!
# The kernel's window against the reference's

A trip of the kernel looks at 640 padded positions for 128 rows, the reference at 576 for the 64 rows of a chunk. The
positions of the wider window that are not in the chunk's own have bias `⊥`; on the others the logits agree.
-/

@[expose] public section

set_option maxRecDepth 16384

noncomputable section

open Idealize.ShloMosaic Idealize.ShloMosaic.TcCoe Idealize.SL.Sem
open Idealize.ShloMosaic.Pipeline (Dat)

namespace Cert.BandIdeal.Val
open Cert.BandIdeal Cert.BandIdeal.Gen Cert.Soft Cert.Finite
open Cert.BandRefIdeal.Spec (padRow at64 relRow colOf)

/-- A product masked to one head's 64 columns is the product over these columns. -/
theorem lane_sum (f g : Fin 128 → EReal) (h : Fin 2) :
    ∑ l : Fin 128, f l * headMask h l * g l
      = ∑ d : Fin 64, f ⟨64 * h.val + d.val, by omega⟩ * g ⟨64 * h.val + d.val, by omega⟩ := by
  symm
  refine Fintype.sum_of_injective (fun d : Fin 64 => (⟨64 * h.val + d.val, by omega⟩ : Fin 128)) ?_ _ _ ?_ ?_
  · intro a b e
    have := Fin.val_eq_of_eq e
    exact Fin.ext (by dsimp only at this; omega)
  · intro l hl
    have hn : ¬ l.val / 64 = h.val := fun e => hl ⟨⟨l.val % 64, by omega⟩, Fin.ext (by dsimp only; omega)⟩
    unfold headMask
    rw [if_neg hn, mul_zero, zero_mul]
  · intro d
    have hy : (64 * h.val + d.val) / 64 = h.val := by omega
    unfold headMask
    dsimp only
    rw [if_pos hy, mul_one]

variable (m : (ℓ : Loc nD τ sig) → Buf (Elt Ideal) ℓ)

/-- The batch entry of point `t`. -/
def batchOf (t : Fin cfg0.N) : Fin 16 := ⟨t.val / 8, by have : t.val < 128 := t.isLt; omega⟩

/-- The projections and the bias table, as arrays of extended reals. -/
abbrev argX (c : Dev nD) : Vec Ideal Cert.BandRefIdeal.S16x2048x3072 .bf16 := m ((c : Thread nD τ).loc main_arg0)
abbrev argT (c : Dev nD) : Vec Ideal Cert.BandRefIdeal.S257x16 .f32 := m ((c : Thread nD τ).loc main_arg1)

theorem block0_at (c : Dev nD) (t : Fin cfg0.N) (s : Fin 2048) (l : Fin 128) :
    iblk m c 0 t (ix3 0 s l) = argX m c (ix3 (batchOf t) s ⟨128 * (t.val % 8) + l.val, by omega⟩) := by
  blk_ext [iblk, V, idx t, batchOf]

theorem block1_at (c : Dev nD) (t : Fin cfg0.N) (s : Fin 2048) (l : Fin 128) :
    iblk m c 1 t (ix3 0 s l) = argX m c (ix3 (batchOf t) s ⟨1024 + 128 * (t.val % 8) + l.val, by omega⟩) := by
  blk_ext [iblk, V, idx t, batchOf]

theorem block2_at (c : Dev nD) (t : Fin cfg0.N) (s : Fin 2048) (l : Fin 128) :
    iblk m c 2 t (ix3 0 s l) = argX m c (ix3 (batchOf t) s ⟨2048 + 128 * (t.val % 8) + l.val, by omega⟩) := by
  blk_ext [iblk, V, idx t, batchOf]

/-- A key position of trip `k`'s window. -/
theorem keyWin_at (c : Dev nD) (t : Fin cfg0.N) (k : Fin k0_t1_loop.trips) (w : Fin 640) (l : Fin 128) :
    kWin (padded (iblk m c 1 t)) k (ix2 w l)
      = padRow (argX m c) (batchOf t) ⟨1024 + 128 * (t.val % 8) + l.val, by omega⟩ ⟨128 * k.val + w.val, by have := trip_lt k; omega⟩ := by
  unfold padRow
  by_cases hs : 512 ≤ 128 * k.val + w.val
  · rw [dif_pos hs, ← block1_at]
    exact dif_neg (by show ¬ 128 * k.val + w.val < 512; omega)
  · rw [dif_neg hs]
    exact dif_pos (by show 128 * k.val + w.val < 512; omega)

/-- A value position of trip `k`'s window. -/
theorem valueWin_at (c : Dev nD) (t : Fin cfg0.N) (k : Fin k0_t1_loop.trips) (w : Fin 640) (l : Fin 128) :
    kWin (padded (iblk m c 2 t)) k (ix2 w l)
      = padRow (argX m c) (batchOf t) ⟨2048 + 128 * (t.val % 8) + l.val, by omega⟩ ⟨128 * k.val + w.val, by have := trip_lt k; omega⟩ := by
  unfold padRow
  by_cases hs : 512 ≤ 128 * k.val + w.val
  · rw [dif_pos hs, ← block2_at]
    exact dif_neg (by show ¬ 128 * k.val + w.val < 512; omega)
  · rw [dif_neg hs]
    exact dif_pos (by show 128 * k.val + w.val < 512; omega)

/-- A query of trip `k`. -/
theorem queryWin_at (c : Dev nD) (t : Fin cfg0.N) (k : Fin k0_t1_loop.trips) (r : Fin 128) (l : Fin 128) :
    qWin (iblk m c 0 t) k (ix3 0 r l)
      = argX m c (ix3 (batchOf t) ⟨128 * k.val + r.val, by have := trip_lt k; omega⟩ ⟨128 * (t.val % 8) + l.val, by omega⟩) :=
  block0_at m c t _ l

/-- The chunk of row `r` of trip `k`, the row inside it, and where the chunk's window starts in the trip's. -/
def chunkOf (k : Fin k0_t1_loop.trips) (r : Fin 128) : Fin 32 := ⟨2 * k.val + r.val / 64, by have := trip_lt k; omega⟩
def inChunk (r : Fin 128) : Fin 64 := ⟨r.val % 64, by omega⟩
def place (r : Fin 128) (j : Fin 576) : Fin 640 := ⟨j.val + 64 * (r.val / 64), by omega⟩

theorem place_injective (r : Fin 128) : Function.Injective (place r) := fun a b e => by
  have := Fin.val_eq_of_eq e
  unfold place at this
  exact Fin.ext (by dsimp only at this; omega)

/-- On the chunk's own window the kernel's logit is the reference's. -/
theorem logit_in (c : Dev nD) (t : Fin cfg0.N) (k : Fin k0_t1_loop.trips) (h : Fin 2) (r : Fin 128) (j : Fin 576) :
    logit (iblk m c 0 t) (iblk m c 3 t) (padded (iblk m c 1 t)) k h r (place r j)
      = Cert.BandRefIdeal.Spec.logit (argX m c) (argT m c) (batchOf t) (chunkOf k r) (headOf t h) (inChunk r) j := by
  have hk := trip_lt k
  have hp : 128 * k.val + (place r j).val = 64 * (chunkOf k r).val + j.val := by
    unfold place chunkOf; dsimp only; omega
  unfold logit Cert.BandRefIdeal.Spec.logit
  rw [hp]
  by_cases hs : 512 ≤ 64 * (chunkOf k r).val + j.val
  · rw [if_pos hs, if_pos hs]
    refine congrArg₂ (· + ·) ?_ ?_
    · refine (lane_sum (fun l => qWin (iblk m c 0 t) k (ix3 0 r l)) (fun l => kWin (padded (iblk m c 1 t)) k (ix2 (place r j) l)) h).trans ?_
      refine Finset.sum_congr rfl fun d _ => ?_
      rw [queryWin_at, keyWin_at]
      refine congrArg₂ (· * ·) ?_ ?_
      · refine congrArg (argX m c) ?_
        congr 2
        · unfold chunkOf inChunk; dsimp only; omega
        · unfold headOf; dsimp only; omega
      · refine congrArg₂ (padRow (argX m c) (batchOf t)) (Fin.ext ?_) (Fin.ext ?_)
        · unfold colOf headOf; dsimp only; omega
        · unfold at64 chunkOf place; dsimp only; omega
    · rw [bias_at]
      rw [if_pos (by unfold place; dsimp only; omega)]
      refine congrArg (argT m c) ?_
      congr 2
      unfold inChunk place
      dsimp only
      omega
  · rw [if_neg hs, if_neg hs]

/-- Off it the kernel's logit is `⊥`. -/
theorem logit_off (c : Dev nD) (t : Fin cfg0.N) (k : Fin k0_t1_loop.trips) (h : Fin 2) (r : Fin 128) (w : Fin 640)
    (hw : w ∉ Set.range (place r)) :
    logit (iblk m c 0 t) (iblk m c 3 t) (padded (iblk m c 1 t)) k h r w = ⊥ := by
  unfold logit
  split
  · have hb : ¬ (r.val / 64 ≤ w.val / 64 ∧ w.val / 64 ≤ r.val / 64 + 8) := fun ⟨h1, h2⟩ =>
      hw ⟨⟨w.val - 64 * (r.val / 64), by omega⟩, Fin.ext (by unfold place; dsimp only; omega)⟩
    rw [bias_at, if_neg hb]
    exact EReal.add_bot _
  · rfl

/-- With real queries, keys and biases a logit of the reference is `⊥` or real, and the row's own position is real. -/
theorem ref_logit_real (x0 : Vec Ideal Cert.BandRefIdeal.S16x2048x3072 .bf16) (x1 : Vec Ideal Cert.BandRefIdeal.S257x16 .f32)
    (h0 : ∀ (b : Fin 16) (s : Fin 2048) (col : Fin 3072), col.val < 2048 → IsReal (x0 (ix3 b s col))) (h1 : ∀ i, IsReal (x1 i)) (b : Fin 16) (c : Fin 32) (h : Fin 16) (i : Fin 64) (j : Fin 576)
    (hj : 512 ≤ 64 * c.val + j.val) : IsReal (Cert.BandRefIdeal.Spec.logit x0 x1 b c h i j) := by
  unfold Cert.BandRefIdeal.Spec.logit
  rw [if_pos hj]
  refine IsReal.add (IsReal.sum fun d => IsReal.mul (h0 _ _ _ ?_) ?_) (h1 _)
  · unfold Cert.BandRefIdeal.Spec.colOf; dsimp only; omega
  unfold padRow
  split
  · refine h0 _ _ _ ?_
    unfold Cert.BandRefIdeal.Spec.colOf; dsimp only; omega
  · exact isReal_zero

theorem ref_total (x0 : Vec Ideal Cert.BandRefIdeal.S16x2048x3072 .bf16) (x1 : Vec Ideal Cert.BandRefIdeal.S257x16 .f32)
    (h0 : ∀ (b : Fin 16) (s : Fin 2048) (col : Fin 3072), col.val < 2048 → IsReal (x0 (ix3 b s col))) (h1 : ∀ i, IsReal (x1 i)) (b : Fin 16) (c : Fin 32) (h : Fin 16) (i : Fin 64) :
    total (Cert.BandRefIdeal.Spec.logit x0 x1 b c h i) ≠ 0 := by
  refine total_ne_zero _ ⟨512 + i.val, by omega⟩ ?_ fun j => ?_
  · exact (ref_logit_real x0 x1 h0 h1 b c h i _ (by dsimp only; omega)).ne_bot
  · by_cases hj : 512 ≤ 64 * c.val + j.val
    · exact (ref_logit_real x0 x1 h0 h1 b c h i j hj).ne_top
    · unfold Cert.BandRefIdeal.Spec.logit
      rw [if_neg hj]
      exact bot_ne_top

/-- One entry of a trip's result is the reference's. -/
theorem entry_at (c : Dev nD) (t : Fin cfg0.N) (k : Fin k0_t1_loop.trips) (r : Fin 128) (n : Fin 128)
    (h0 : ∀ (b : Fin 16) (s : Fin 2048) (col : Fin 3072), col.val < 2048 → IsReal (argX m c (ix3 b s col))) (h1 : ∀ i, IsReal (argT m c i)) :
    tripOut (iblk m c 0 t) (iblk m c 3 t) (padded (iblk m c 1 t)) (padded (iblk m c 2 t)) k (ix3 0 r n)
      = Cert.BandRefIdeal.Read.val_main_v78 (F := Ideal) (argX m c) (argT m c)
          (ix3 (batchOf t) ⟨128 * k.val + r.val, by have := trip_lt k; omega⟩ ⟨128 * (t.val % 8) + n.val, by omega⟩) := by
  have hk := trip_lt k
  rw [trip_at _ _ _ _ k r n ⟨n.val / 64, by omega⟩ rfl, Cert.BandRefIdeal.Spec.ref_at]
  have ec : (⟨(128 * k.val + r.val) / 64, by omega⟩ : Fin 32) = chunkOf k r := Fin.ext (by unfold chunkOf; dsimp only; omega)
  have ei : (⟨(128 * k.val + r.val) % 64, by omega⟩ : Fin 64) = inChunk r := Fin.ext (by unfold inChunk; dsimp only; omega)
  have eh : (⟨(128 * (t.val % 8) + n.val) / 64, by omega⟩ : Fin 16) = headOf t ⟨n.val / 64, by omega⟩ :=
    Fin.ext (by unfold headOf; dsimp only; omega)
  rw [ec, ei, eh]
  refine (average_window (place r) (place_injective r) _ _ _ _ (logit_in m c t k _ r) (fun j => ?_) (logit_off m c t k _ r)).trans
    (average_eq_weighted _ _ (ref_total _ _ h0 h1 _ _ _ _))
  rw [valueWin_at]
  refine congrArg₂ (padRow (argX m c) (batchOf t)) (Fin.ext ?_) (Fin.ext ?_)
  · unfold colOf headOf; dsimp only; omega
  · unfold at64 chunkOf place; dsimp only; omega

end Cert.BandIdeal.Val
end
-- ==== Proof.BandValue.lean ====
module

public import proofs.«01_k».proof.Proof.BandWin

/-!
# The banded attention's result array

Every block of the result holds the reference's entries, so the array is the reference's.
-/

@[expose] public section

set_option maxRecDepth 16384

noncomputable section

open Idealize.ShloMosaic Idealize.ShloMosaic.TcCoe Idealize.SL.Sem
open Idealize.ShloMosaic.Pipeline (Dat)

namespace Cert.BandIdeal.Val
open Cert.BandIdeal Cert.BandIdeal.Gen Cert.Soft Cert.Finite

variable (m : (ℓ : Loc nD τ sig) → Buf (Elt Ideal) ℓ)

/-- What point `t` leaves at `y` is the reference at the array position `y` sits at. -/
theorem point (c : Dev nD) (h0 : ∀ (b : Fin 16) (s : Fin 2048) (col : Fin 3072), col.val < 2048 → IsReal (argX m c (ix3 b s col))) (h1 : ∀ i, IsReal (argT m c i)) (t : Fin cfg0.N) (y : S1x2048x128.Idx) :
    outsAt0 m c t y
      = Cert.BandRefIdeal.Read.val_main_v78 (F := Ideal) (argX m c) (argT m c) (((cfg0.win 4).blk t).view.emb y) := by
  idx_vars y
  have hy0 : y0 = 0 := Subsingleton.elim _ _
  subst hy0
  have he : ((cfg0.win 4).blk t).view.emb (ix3 0 y1 y2)
      = (ix3 (batchOf t) ⟨128 * (y1.val / 128) + y1.val % 128, by omega⟩ ⟨128 * (t.val % 8) + y2.val, by omega⟩ : Cert.BandRefIdeal.S16x2048x1024.Idx) := by
    have e1 : (⟨128 * (y1.val / 128) + y1.val % 128, by omega⟩ : Fin 2048) = y1 := Fin.ext (by dsimp only; omega)
    rw [e1]
    blk_ext [idx t, batchOf]
  rw [he, out_at]
  exact entry_at m c t ⟨y1.val / 128, by show _ < 16; omega⟩ ⟨y1.val % 128, by omega⟩ y2 h0 h1

/-- The result array after the run is the reference's result over the same arguments. -/
theorem final (c : Dev nD) (h0 : ∀ (b : Fin 16) (s : Fin 2048) (col : Fin 3072), col.val < 2048 → IsReal (argX m c (ix3 b s col))) (h1 : ∀ i, IsReal (argT m c i)) : (dats m 0 c).arrAt 4 (cfgs 0).N
      = Cert.BandRefIdeal.Read.val_main_v78 (F := Ideal) (argX m c) (argT m c) := by
  refine (dats m 0 c).arrAt_eq_of_covers 4 _ (by decide +kernel) fun t _ y => ?_
  blk_simp
  rw [after0_4]
  exact point m c h0 h1 t y

end Cert.BandIdeal.Val
end
-- ==== Proof.StickIdealRun.lean ====
module

public import proofs.«01_k».proof.Proof.Gen.StickIdeal.Frame
public import proofs.«01_k».proof.Proof.Gen.StickIdeal.Loops
public import proofs.«01_k».proof.Proof.Gen.StickIdeal.Skeleton
public import Idealize.ShloMosaic.Lib.Claim

/-!
# The stick-breaking attention runs: the program over the extended reals

The kernel's loop over the sixteen query blocks has loops over the key blocks inside it. Here the outer loop gets its
invariant — the query, key and value blocks stay as they are, and the output block holds the pieces stored by the trips
so far —, and from it follow the run of the whole body, the proof data of the pipeline, and the frame.
-/

@[expose] public section

set_option maxRecDepth 16384
set_option maxHeartbeats 4000000

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The propositions the run is stated in. -/
abbrev St (F : FTy → Type) [FloatOps F] : Type := sProp (MT nD τ sig Unit (Elt F) ℕ (UR sig nD τ) ℕ)

/-- A staging buffer of one window. -/
abbrev Win : Type := Memref sig .tc .vmem S1x2048x128 .bf16

/-- What it holds. -/
abbrev Held (F : FTy → Type) [FloatOps F] (a : Win) : Type := BufTy.Contents (Elt F) a.view.ty

/-- The pieces stored into an output block. -/
abbrev Pieces (F : FTy → Type) [FloatOps F] : Type := List (View.Piece (Elt F) S1x2048x128 .bf16)

/-! ## One trip of the outer loop, and the loop by its invariant -/

section Outer

variable (𝒱 : Variants) (c : Dev nD) (bd : Option 𝒱.V) (i : grid0.Coords)
  (arg2 : Win) (harg2 : arg2.IsWhole) (arg3 : Win) (harg3 : arg3.IsWhole) (arg4 : Win) (harg4 : arg4.IsWhole)
  (arg5 : Win) (harg5 : arg5.IsWhole) (v16 v17 : IVec S128x256 32)

/-- The four buffers a trip touches. -/
abbrev Four (X2 : Held F arg2) (X3 : Held F arg3) (X4 : Held F arg4) (f5 : Held F arg5) : St F :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5))

/-- One trip, with the pieces it stores. -/
@[irreducible] def outer (X2 : Held F arg2) (X3 : Held F arg3) (X4 : Held F arg4) (k : Fin k0_t1_loop.trips) :
    { L : Pieces F // ∀ (E : Set ℕ) (f5 : Held F arg5),
      Four (F := F) c arg2 arg3 arg4 arg5 X2 X3 X4 f5
      ⊢ wp frame (wpE (defs₀ (F := F)) 𝒱 (c : Thread nD τ) bd) E (k0_t1_body (F := F) i arg2 harg2 arg3 harg3 arg4 harg4 arg5 harg5 v16 v17 k PUnit.unit)
          (fun _ => Four (F := F) c arg2 arg3 arg4 arg5 X2 X3 X4 (arg5.view.writes (Elt F) f5 L)) } := by
  refine ⟨?_, fun E f5 => ?run⟩
  case run =>
    unfold k0_t1_body
    iintro ⟨H2, H3, H4, H5⟩
    sl_exec
    sl_step
    sl_close

/-- The pieces of one trip. -/
abbrev outerL (X2 : Held F arg2) (X3 : Held F arg3) (X4 : Held F arg4) (k : Fin k0_t1_loop.trips) : Pieces F :=
  (outer (F := F) 𝒱 c bd i arg2 harg2 arg3 harg3 arg4 harg4 arg5 harg5 v16 v17 X2 X3 X4 k).1

/-- One more trip's pieces in front of the earlier ones. -/
@[irreducible] def stickStep (X2 : Held F arg2) (X3 : Held F arg3) (X4 : Held F arg4) (k : ℕ) (prev : Pieces F) : Pieces F :=
  if h : k < k0_t1_loop.trips then outerL (F := F) 𝒱 c bd i arg2 harg2 arg3 harg3 arg4 harg4 arg5 harg5 v16 v17 X2 X3 X4 ⟨k, h⟩ ++ prev
  else prev

/-- The pieces of the trips before `k`, the last first. -/
def stickPieces (X2 : Held F arg2) (X3 : Held F arg3) (X4 : Held F arg4) : ℕ → Pieces F
  | 0 => []
  | k + 1 => stickStep 𝒱 c bd i arg2 harg2 arg3 harg3 arg4 harg4 arg5 harg5 v16 v17 X2 X3 X4 k (stickPieces X2 X3 X4 k)

theorem stickPieces_succ (X2 : Held F arg2) (X3 : Held F arg3) (X4 : Held F arg4) (k : Fin k0_t1_loop.trips) :
    stickPieces (F := F) 𝒱 c bd i arg2 harg2 arg3 harg3 arg4 harg4 arg5 harg5 v16 v17 X2 X3 X4 (k.val + 1)
      = outerL (F := F) 𝒱 c bd i arg2 harg2 arg3 harg3 arg4 harg4 arg5 harg5 v16 v17 X2 X3 X4 k
        ++ stickPieces (F := F) 𝒱 c bd i arg2 harg2 arg3 harg3 arg4 harg4 arg5 harg5 v16 v17 X2 X3 X4 k.val := by
  rw [stickPieces.eq_2]; unfold stickStep; exact dif_pos k.isLt

/-- Before trip `k`: the three inputs as they were, the output with the pieces of the earlier trips. -/
abbrev outerInv (X2 : Held F arg2) (X3 : Held F arg3) (X4 : Held F arg4) (G5 : Held F arg5) (k : ℕ) (_u : PUnit) : St F :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) G5 (stickPieces (F := F) 𝒱 c bd i arg2 harg2 arg3 harg3 arg4 harg4 arg5 harg5 v16 v17 X2 X3 X4 k)⌝))

set_option warn.classDefReducibility false in
/-- The outer loop keeps the invariant. -/
@[sl_loop] def outerLoop (E : Set ℕ) (X2 : Held F arg2) (X3 : Held F arg3) (X4 : Held F arg4) (G5 : Held F arg5) :
    LoopInvTy_k0_t1 (F := F) Unit ℕ (UR sig nD τ) ℕ 𝒱 c bd E i arg2 harg2 arg3 harg3 arg4 harg4 arg5 harg5 v16 v17 where
  inv := outerInv (F := F) 𝒱 c bd i arg2 harg2 arg3 harg3 arg4 harg4 arg5 harg5 v16 v17 X2 X3 X4 G5
  step k acc := by
    iintro ⟨H2, H3, H4, ⟨%f5, H5, %h5⟩⟩
    iapply (wp_wand_r Idealize.ShloMosaic.frame (wpE (defs₀ (F := F)) 𝒱 (c : Thread nD τ) bd) E)
    isplitl [H2 H3 H4 H5]
    · iapply ((outer (F := F) 𝒱 c bd i arg2 harg2 arg3 harg3 arg4 harg4 arg5 harg5 v16 v17 X2 X3 X4 k).2 E f5)
      isplitl [H2]; · iexact H2
      isplitl [H3]; · iexact H3
      isplitl [H4]; · iexact H4
      iexact H5
    · iintro %_ ⟨H2, H3, H4, H5⟩
      isplitl [H2]; · iexact H2
      isplitl [H3]; · iexact H3
      isplitl [H4]; · iexact H4
      rw [stickPieces_succ]
      iexists _; isplitl [H5]; · iexact H5
      ipureintro; rw [h5, ← View.writes_append]

end Outer

/-! ## The whole body -/

/-- The body run on four whole buffers, with the pieces it leaves in the output's. -/
noncomputable def bodyRun (c : Dev nD) (i : grid0.Coords)
    (arg2 : Win) (harg2 : arg2.IsWhole) (arg3 : Win) (harg3 : arg3.IsWhole) (arg4 : Win) (harg4 : arg4.IsWhole) (arg5 : Win) (harg5 : arg5.IsWhole)
    (x0 x1 x2 : Vec F S1x2048x128 .bf16) :
    { L : Pieces F // ∀ (E : Set ℕ) (K : PUnit → St F),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0_attn_stick i arg2 harg2 arg3 harg3 arg4 harg4 arg5 harg5) K } := by
  refine ⟨?_, fun E K => ?run⟩
  case run =>
    simp only [cc0_attn_stick_eq_skeleton]; unfold cc0_attn_stick_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-! ## What the body leaves, and the proof data of the pipeline -/

/-- One staging buffer of the output window; its contents are read through it. -/
abbrev outView : View sig .tc .vmem S1x2048x128 .bf16 := (Memref.whole cc0_stg3_0 : Memref sig .tc .vmem S1x2048x128 .bf16).view

/-- Each window's staging buffer at point `t`. -/
abbrev ms0_0 (t : Fin cfg0.N) : Win := win0_0.stage (cfg0.slots t 0)
abbrev hs0_0 (t : Fin cfg0.N) : (ms0_0 t).IsWhole := hstage0_0 ((cfg0.slots t 0).cast nbuf0_0)
abbrev ms0_1 (t : Fin cfg0.N) : Win := win0_1.stage (cfg0.slots t 1)
abbrev hs0_1 (t : Fin cfg0.N) : (ms0_1 t).IsWhole := hstage0_1 ((cfg0.slots t 1).cast nbuf0_1)
abbrev ms0_2 (t : Fin cfg0.N) : Win := win0_2.stage (cfg0.slots t 2)
abbrev hs0_2 (t : Fin cfg0.N) : (ms0_2 t).IsWhole := hstage0_2 ((cfg0.slots t 2).cast nbuf0_2)
abbrev ms0_3 (t : Fin cfg0.N) : Win := win0_3.stage (cfg0.slots t 3)
abbrev hs0_3 (t : Fin cfg0.N) : (ms0_3 t).IsWhole := hstage0_3 ((cfg0.slots t 3).cast nbuf0_3)

/-- The sixteen stores tile the output block. -/
theorem bodyRun_cover (c : Dev nD) (i : grid0.Coords)
    (arg2 : Win) (harg2 : arg2.IsWhole) (arg3 : Win) (harg3 : arg3.IsWhole) (arg4 : Win) (harg4 : arg4.IsWhole) (arg5 : Win) (harg5 : arg5.IsWhole)
    (x0 x1 x2 : Vec F S1x2048x128 .bf16) (y : S1x2048x128.Idx) :
    ∃ pc ∈ (bodyRun c i arg2 harg2 arg3 harg3 arg4 harg4 arg5 harg5 x0 x1 x2).1, y ∈ pc.1.set :=
  View.cover_of_tiledL (bodyRun c i arg2 harg2 arg3 harg3 arg4 harg4 arg5 harg5 x0 x1 x2).1 S1x128x128.size (by sl_kernel_rfl) y

/-- What the body leaves in the output's buffer. -/
def bodyOut (c : Dev nD) (i : grid0.Coords)
    (arg2 : Win) (harg2 : arg2.IsWhole) (arg3 : Win) (harg3 : arg3.IsWhole) (arg4 : Win) (harg4 : arg4.IsWhole) (arg5 : Win) (harg5 : arg5.IsWhole)
    (x0 x1 x2 : Vec F S1x2048x128 .bf16) : Vec F S1x2048x128 .bf16 :=
  outView.read (Elt F) (outView.writes (Elt F) outView.junk (bodyRun c i arg2 harg2 arg3 harg3 arg4 harg4 arg5 harg5 x0 x1 x2).1)

variable (m : (ℓ : Loc nD τ sig) → Buf (Elt F) ℓ) (ρ : Dev nD → PrngReg)

/-- The output block after point `t`. -/
def outsAt0 (c : Dev nD) (t : Fin cfg0.N) : Vec F S1x2048x128 .bf16 :=
  bodyOut c (grid0.coords t) (ms0_0 t) (hs0_0 t) (ms0_1 t) (hs0_1 t) (ms0_2 t) (hs0_2 t) (ms0_3 t) (hs0_3 t) (iblk m c 0 t) (iblk m c 1 t) (iblk m c 2 t)

/-- The proof data: the arrays as the region finds them, each input's buffer at its block, the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt0 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at every point, the run, and the frame -/

/-- What the body is called with at point `t`. -/
def bodyPre (c : Dev nD) (t : Fin cfg0.N) : St F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : St F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold bodyOut
  iintro ⟨Hg, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [Hg]; · iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (bodyRun_cover c _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program ends with every array as the pipeline leaves it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame, for any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.StickIdeal.Gen

end
-- ==== Proof.StickTrips.lean ====
module

public import proofs.«01_k».proof.Proof.StickIdealRun
public import Idealize.ShloMosaic.Lib.Pipeline.ValueKit

/-!
# The stick-breaking attention: what one trip of the outer loop stores

Trip `k` takes the 128 query rows `128 k …` and goes through the key blocks of 256 rows from block `k / 2` down to
block 0, for the two heads of the pair one after the other. Here the stored value is written with the carried pair
(weighted values, sum of the logarithms so far) of the loops over the key blocks.
-/

@[expose] public section

set_option maxRecDepth 16384

noncomputable section

open Idealize.ShloMosaic Idealize.ShloMosaic.TcCoe Idealize.SL.Sem
open Idealize.ShloMosaic.Pipeline (Dat)

namespace Cert.StickIdeal.Val
open Cert.StickIdeal Cert.StickIdeal.Gen

theorem trip_lt (k : Fin k0_t1_loop.trips) : k.val < 16 := k.isLt

theorem trips2 : ∀ k : Fin k0_t1_loop.trips, (k0_t2_loop k).trips = k.val / 2 := by decide +kernel
theorem trips3 : ∀ k : Fin k0_t1_loop.trips, (k0_t3_loop k).trips = 0 := by decide +kernel
theorem trips4 : ∀ k : Fin k0_t1_loop.trips, (k0_t4_loop k).trips = k.val / 2 := by decide +kernel
theorem trips5 : ∀ k : Fin k0_t1_loop.trips, (k0_t5_loop k).trips = 0 := by decide +kernel

theorem off1_eq : ∀ k : Fin k0_t1_loop.trips, k0_off1 k = ![0, 128 * k.val, 0] := by decide +kernel
theorem off2_eq : ∀ k : Fin k0_t1_loop.trips, k0_off2 k = ![0, 256 * (k.val / 2), 0] := by decide +kernel
theorem off3_eq : ∀ (k : Fin k0_t1_loop.trips) (j : Fin (k0_t2_loop k).trips), k0_off3 k j = ![0, 256 * (k.val / 2 - 1 - j.val), 0] := by
  decide +kernel
theorem off5_eq : ∀ (k : Fin k0_t1_loop.trips) (j : Fin (k0_t4_loop k).trips), k0_off5 k j = ![0, 256 * (k.val / 2 - 1 - j.val), 0] := by
  decide +kernel

/-- The 128 query rows of trip `k`. -/
def qWin (x : Vec Ideal S1x2048x128 .bf16) (k : Fin k0_t1_loop.trips) : Vec Ideal S1x128x128 .bf16 := fun j =>
  x (ix3 0 ⟨128 * k.val + (j 1).val, by have := trip_lt k; have : (j 1).val < 128 := (j 1).isLt; omega⟩ (j 2))

/-- The 256 rows of key (or value) block `b`. -/
def kBlk (x : Vec Ideal S1x2048x128 .bf16) (b : Fin 8) : Vec Ideal S1x256x128 .bf16 := fun j =>
  x (ix3 0 ⟨256 * b.val + (j 1).val, by have := b.isLt; have : (j 1).val < 256 := (j 1).isLt; omega⟩ (j 2))

/-- The block trip `k` begins with. -/
abbrev diag (k : Fin k0_t1_loop.trips) : Fin 8 := ⟨k.val / 2, by have := trip_lt k; omega⟩

/-- The block of trip `j` of the loops over the key blocks. -/
abbrev back (k : Fin k0_t1_loop.trips) (j : ℕ) : Fin 8 := ⟨k.val / 2 - 1 - j, by have := trip_lt k; omega⟩

/-- One key block more: the pair carried through the loop. -/
def step (q : FVec Ideal S128x128 .bf16) (ky vy : Vec Ideal S1x256x128 .bf16) (a : FVec Ideal S128x128 .f32 × FVec Ideal S128x1 .f32) :
    FVec Ideal S128x128 .f32 × FVec Ideal S128x1 .f32 :=
  (k0_pay10 (k0_pay4 (F := Ideal)) q a.1 a.2 ky vy, k0_pay9 q a.2 ky)

/-- The positions before the query, in the first block. -/
abbrev mask (k : Fin k0_t1_loop.trips) : IVec S128x256 1 :=
  k0_pay27 (iota .tc S128x256 32 [0] iota_S128x256_d0_w32) (iota .tc S128x256 32 [1] iota_S128x256_d1_w32) 0#32 1#32 k

/-- The first key block: the pair the loop begins with. -/
def first (q : FVec Ideal S128x128 .bf16) (ky vy : Vec Ideal S1x256x128 .bf16) (k : Fin k0_t1_loop.trips) :
    FVec Ideal S128x128 .f32 × FVec Ideal S128x1 .f32 :=
  (k0_pay42 (k0_pay4 (F := Ideal)) (mask k) q (k0_pay38 (F := Ideal)) ky vy, k0_pay43 (mask k) q (k0_pay38 (F := Ideal)) ky)

/-- The pair after `n` further blocks. -/
def after (q : FVec Ideal S128x128 .bf16) (x1 x2 : Vec Ideal S1x2048x128 .bf16) (k : Fin k0_t1_loop.trips) :
    ℕ → FVec Ideal S128x128 .f32 × FVec Ideal S128x1 .f32
  | 0 => first q (kBlk x1 (diag k)) (kBlk x2 (diag k)) k
  | n + 1 => step q (kBlk x1 (back k n)) (kBlk x2 (back k n)) (after q x1 x2 k n)

/-- The queries of the first head: the other head's lanes are zero. -/
abbrev q0 (x0 : Vec Ideal S1x2048x128 .bf16) (k : Fin k0_t1_loop.trips) : FVec Ideal S128x128 .bf16 := k0_pay28 (k0_pay2 (F := Ideal)) (qWin x0 k)

/-- The queries of the second head. -/
abbrev q1 (x0 : Vec Ideal S1x2048x128 .bf16) (k : Fin k0_t1_loop.trips) : FVec Ideal S128x128 .bf16 := k0_pay37 (k0_pay3 (F := Ideal)) (k0_pay26 (qWin x0 k))

/-- What trip `k` stores. -/
def tripOut (x0 x1 x2 : Vec Ideal S1x2048x128 .bf16) (k : Fin k0_t1_loop.trips) : Vec Ideal S1x128x128 .bf16 :=
  k0_pay5 (after (q0 x0 k) x1 x2 k (k.val / 2)).1 (after (q1 x0 k) x1 x2 k (k.val / 2)).1

section Trips

variable (𝒱 : Variants) (c : Dev nD) (bd : Option 𝒱.V) (i : grid0.Coords)
  (arg2 : Win) (harg2 : arg2.IsWhole) (arg3 : Win) (harg3 : arg3.IsWhole) (arg4 : Win) (harg4 : arg4.IsWhole)
  (arg5 : Win) (harg5 : arg5.IsWhole)

/-- A load of 128 rows from row `128 k`. -/
theorem load_q (k : Fin k0_t1_loop.trips) (a : Win) (X : Held Ideal a) :
    View.readAt (Elt Ideal) a.view (Rect.unit (s := S1x2048x128) (k0_off1 k) S1x128x128.size (k0_off1_inb k)).toLoadRect X
      = qWin (a.view.read (Elt Ideal) X) k := by
  funext j
  show a.view.read (Elt Ideal) X _ = a.view.read (Elt Ideal) X _
  congr 1
  funext d
  apply Fin.ext
  fin_cases d
  · show (k0_off1 k) 0 + 1 * (j 0).val = 0
    have e : (k0_off1 k) 0 = 0 := congrFun (off1_eq k) 0
    have : (j 0).val < 1 := (j 0).isLt
    omega
  · show (k0_off1 k) 1 + 1 * (j 1).val = 128 * k.val + (j 1).val
    have e : (k0_off1 k) 1 = 128 * k.val := congrFun (off1_eq k) 1
    omega
  · show (k0_off1 k) 2 + 1 * (j 2).val = (j 2).val
    have e : (k0_off1 k) 2 = 0 := congrFun (off1_eq k) 2
    omega

/-- A load of 256 rows from row `256 b`. -/
theorem load_blk (off : Fin 3 → ℕ) (h) (b : Fin 8) (e : off = ![0, 256 * b.val, 0]) (a : Win) (X : Held Ideal a) :
    View.readAt (Elt Ideal) a.view (Rect.unit (s := S1x2048x128) off S1x256x128.size h).toLoadRect X
      = kBlk (a.view.read (Elt Ideal) X) b := by
  subst e
  funext j
  show a.view.read (Elt Ideal) X _ = a.view.read (Elt Ideal) X _
  congr 1
  funext d
  apply Fin.ext
  fin_cases d
  · show 0 + 1 * (j 0).val = 0
    have : (j 0).val < 1 := (j 0).isLt
    omega
  · show 256 * b.val + 1 * (j 1).val = 256 * b.val + (j 1).val
    omega
  · show 0 + 1 * (j 2).val = (j 2).val
    omega

/-- One trip of the first head's loop. -/
theorem trip2 (k : Fin k0_t1_loop.trips) (v9 v23 v40 v42 v46 v48 v49 v55 v56 v59) (X3 : Held Ideal arg3) (X4 : Held Ideal arg4)
    (j : Fin (k0_t2_loop k).trips) (a) :
    tripR_k0_t2 (F := Ideal) 𝒱 c bd i arg2 harg2 arg3 harg3 arg4 harg4 arg5 harg5 v9 (k0_pay4 (F := Ideal)) k v23 v40 v42 v46 v48 v49 v55 v56 v59 X3 X4 j a
      = step v48 (kBlk (arg3.view.read (Elt Ideal) X3) (back k j.val)) (kBlk (arg4.view.read (Elt Ideal) X4) (back k j.val)) a := by
  unfold tripR_k0_t2 trip_k0_t2
  unfold step
  rw [← load_blk _ (k0_off3_inb k j) (back k j.val) (off3_eq k j), ← load_blk _ (k0_off3_inb k j) (back k j.val) (off3_eq k j)]
  rfl

/-- One trip of the second head's loop. -/
theorem trip4 (k : Fin k0_t1_loop.trips) (v40 v100 c0) (X3 : Held Ideal arg3) (X4 : Held Ideal arg4)
    (j : Fin (k0_t4_loop k).trips) (a) :
    tripR_k0_t4 (F := Ideal) 𝒱 c bd i arg2 harg2 arg3 harg3 arg4 harg4 arg5 harg5 k v40 v100 c0 X3 X4 j a
      = step v100 (kBlk (arg3.view.read (Elt Ideal) X3) (back k j.val)) (kBlk (arg4.view.read (Elt Ideal) X4) (back k j.val)) a := by
  unfold tripR_k0_t4 trip_k0_t4
  unfold step
  rw [← load_blk _ (k0_off5_inb k j) (back k j.val) (off5_eq k j), ← load_blk _ (k0_off5_inb k j) (back k j.val) (off5_eq k j)]
  rfl

theorem state2 (k : Fin k0_t1_loop.trips) (v9 v23 v40 v42 v46 v48 v49 v55 v56 v59) (X3 : Held Ideal arg3) (X4 : Held Ideal arg4) (init)
    (h : init = after v48 (arg3.view.read (Elt Ideal) X3) (arg4.view.read (Elt Ideal) X4) k 0) (n : ℕ) (hn : n ≤ k.val / 2) :
    st_k0_t2 (F := Ideal) 𝒱 c bd i arg2 harg2 arg3 harg3 arg4 harg4 arg5 harg5 v9 (k0_pay4 (F := Ideal)) k v23 v40 v42 v46 v48 v49 v55 v56 v59 X3 X4 init n
      = after v48 (arg3.view.read (Elt Ideal) X3) (arg4.view.read (Elt Ideal) X4) k n := by
  induction n with
  | zero => exact h
  | succ n ih =>
    have e := st_k0_t2_succ (F := Ideal) 𝒱 c bd i arg2 harg2 arg3 harg3 arg4 harg4 arg5 harg5 v9 (k0_pay4 (F := Ideal)) k v23 v40 v42 v46 v48 v49 v55 v56 v59 X3 X4 init
      ⟨n, by rw [trips2]; omega⟩
    rw [trip2, ih (by omega)] at e
    exact e

theorem state4 (k : Fin k0_t1_loop.trips) (v40 v100 c0) (X3 : Held Ideal arg3) (X4 : Held Ideal arg4) (init)
    (h : init = after v100 (arg3.view.read (Elt Ideal) X3) (arg4.view.read (Elt Ideal) X4) k 0) (n : ℕ) (hn : n ≤ k.val / 2) :
    st_k0_t4 (F := Ideal) 𝒱 c bd i arg2 harg2 arg3 harg3 arg4 harg4 arg5 harg5 k v40 v100 c0 X3 X4 init n
      = after v100 (arg3.view.read (Elt Ideal) X3) (arg4.view.read (Elt Ideal) X4) k n := by
  induction n with
  | zero => exact h
  | succ n ih =>
    have e := st_k0_t4_succ (F := Ideal) 𝒱 c bd i arg2 harg2 arg3 harg3 arg4 harg4 arg5 harg5 k v40 v100 c0 X3 X4 init
      ⟨n, by rw [trips4]; omega⟩
    rw [trip4, ih (by omega)] at e
    exact e

/-- Trip `k` makes one store, of `tripOut`. -/
theorem trip_pieces (X2 : Held Ideal arg2) (X3 : Held Ideal arg3) (X4 : Held Ideal arg4) (k : Fin k0_t1_loop.trips) :
    outerL (F := Ideal) 𝒱 c bd i arg2 harg2 arg3 harg3 arg4 harg4 arg5 harg5 (iota .tc S128x256 32 [0] iota_S128x256_d0_w32) (iota .tc S128x256 32 [1] iota_S128x256_d1_w32) X2 X3 X4 k
      = [⟨Rect.unit (k0_off1 k) S1x128x128.size (k0_off1_inb k),
          tripOut (arg2.view.read (Elt Ideal) X2) (arg3.view.read (Elt Ideal) X3) (arg4.view.read (Elt Ideal) X4) k⟩] := by
  unfold outerL outer
  unfold tripOut
  refine congrArg (fun w => [(⟨Rect.unit (k0_off1 k) S1x128x128.size (k0_off1_inb k), w⟩ : View.Piece (Elt Ideal) S1x2048x128 .bf16)])
    (congrArg₂ (k0_pay5 (F := Ideal)) ?_ ?_)
  · unfold outer.sl.r_6
    rw [show Scf.trips (k0_t3_loop k).lb (k0_t3_loop k).ub (k0_t3_loop k).st = 0 from trips3 k, st_k0_t3_zero]
    dsimp only
    rw [show Scf.trips (k0_t2_loop k).lb (k0_t2_loop k).ub (k0_t2_loop k).st = k.val / 2 from trips2 k]
    rw [state2 (h := ?_) (hn := le_rfl)]
    · unfold outer.sl.r_2 q0
      rw [← load_q]
    · unfold after first
      rw [← load_blk _ (k0_off2_inb k) (diag k) (off2_eq k), ← load_blk _ (k0_off2_inb k) (diag k) (off2_eq k)]
      rfl
  · rw [show Scf.trips (k0_t5_loop k).lb (k0_t5_loop k).ub (k0_t5_loop k).st = 0 from trips5 k, st_k0_t5_zero]
    dsimp only
    rw [show Scf.trips (k0_t4_loop k).lb (k0_t4_loop k).ub (k0_t4_loop k).st = k.val / 2 from trips4 k]
    rw [state4 (h := ?_) (hn := le_rfl)]
    · unfold outer.sl.r_7 q1
      rw [← load_q]
      rfl
    · unfold after first
      rw [← load_blk _ (k0_off2_inb k) (diag k) (off2_eq k), ← load_blk _ (k0_off2_inb k) (diag k) (off2_eq k)]
      rfl

/-- Where trip `k`'s store goes. -/
theorem off1_at (k : Fin k0_t1_loop.trips) (x : S1x128x128.Idx) :
    ((Rect.unit (s := S1x2048x128) (k0_off1 k) S1x128x128.size (k0_off1_inb k)).emb x 1).val = 128 * k.val + (x 1).val
    ∧ ((Rect.unit (s := S1x2048x128) (k0_off1 k) S1x128x128.size (k0_off1_inb k)).emb x 2).val = (x 2).val := by
  constructor
  · show (k0_off1 k) 1 + 1 * (x 1).val = 128 * k.val + (x 1).val
    rw [off1_eq k]
    show 128 * k.val + 1 * (x 1).val = 128 * k.val + (x 1).val
    omega
  · show (k0_off1 k) 2 + 1 * (x 2).val = (x 2).val
    rw [off1_eq k]
    show 0 + 1 * (x 2).val = (x 2).val
    omega

/-- The rows trip `k` stores. -/
theorem mem_off1 (k : Fin k0_t1_loop.trips) (y : S1x2048x128.Idx) (h0 : 128 * k.val ≤ (y 1).val) (h1 : (y 1).val < 128 * k.val + 128) :
    y ∈ (Rect.unit (s := S1x2048x128) (k0_off1 k) S1x128x128.size (k0_off1_inb k)).set := by
  rw [Rect.mem_set_unit]
  intro a
  rw [off1_eq k]
  fin_cases a
  · show 0 ≤ (y 0).val ∧ (y 0).val < 0 + 1
    have : (y 0).val < 1 := (y 0).isLt
    omega
  · exact ⟨h0, h1⟩
  · show 0 ≤ (y 2).val ∧ (y 2).val < 0 + 128
    have : (y 2).val < 128 := (y 2).isLt
    omega

/-- The whole output block, row by row the trip that wrote it. -/
def blockOut (x0 x1 x2 : Vec Ideal S1x2048x128 .bf16) : Vec Ideal S1x2048x128 .bf16 :=
  fun y => tripOut x0 x1 x2 ⟨(y 1).val / 128, by have : (y 1).val < 2048 := (y 1).isLt; show _ < 16; omega⟩
    (ix3 0 ⟨(y 1).val % 128, Nat.mod_lt _ (by norm_num)⟩ (y 2))

/-- Row `128 k + r` of the block is row `r` of trip `k`. -/
theorem blockOut_of (x0 x1 x2 : Vec Ideal S1x2048x128 .bf16)
    (k : Fin k0_t1_loop.trips) (x : S1x128x128.Idx) (y : S1x2048x128.Idx) (h1 : (y 1).val = 128 * k.val + (x 1).val)
    (h2 : (y 2).val = (x 2).val) : blockOut x0 x1 x2 y = tripOut x0 x1 x2 k x := by
  have hx : (x 1).val < 128 := (x 1).isLt
  have hk : (⟨(y 1).val / 128, by have : (y 1).val < 2048 := (y 1).isLt; show _ < 16; omega⟩ : Fin k0_t1_loop.trips) = k :=
    Fin.ext (by show (y 1).val / 128 = k.val; omega)
  have hj : (ix3 0 ⟨(y 1).val % 128, Nat.mod_lt _ (by norm_num)⟩ (y 2) : S1x128x128.Idx) = x := by
    funext a
    apply Fin.ext
    fin_cases a
    · show 0 = (x 0).val
      have : (x 0).val < 1 := (x 0).isLt
      omega
    · show (y 1).val % 128 = (x 1).val
      omega
    · exact h2
  unfold blockOut
  rw [hk, hj]

/-- Every piece of the first `n` trips agrees with `blockOut`, and together they cover the first `128 n` rows. -/
theorem pieces (X2 : Held Ideal arg2) (X3 : Held Ideal arg3) (X4 : Held Ideal arg4) (n : ℕ) (hn : n ≤ 16) :
    (∀ p ∈ stickPieces (F := Ideal) 𝒱 c bd i arg2 harg2 arg3 harg3 arg4 harg4 arg5 harg5 (iota .tc S128x256 32 [0] iota_S128x256_d0_w32) (iota .tc S128x256 32 [1] iota_S128x256_d1_w32) X2 X3 X4 n,
      ∀ x : p.1.shape.Idx, p.2 x = blockOut (arg2.view.read (Elt Ideal) X2) (arg3.view.read (Elt Ideal) X3) (arg4.view.read (Elt Ideal) X4) (p.1.emb x))
    ∧ ∀ y : S1x2048x128.Idx, (y 1).val < 128 * n →
      ∃ p ∈ stickPieces (F := Ideal) 𝒱 c bd i arg2 harg2 arg3 harg3 arg4 harg4 arg5 harg5 (iota .tc S128x256 32 [0] iota_S128x256_d0_w32) (iota .tc S128x256 32 [1] iota_S128x256_d1_w32) X2 X3 X4 n, y ∈ p.1.set := by
  induction n with
  | zero =>
    refine ⟨fun p hp => ?_, fun y hy => by omega⟩
    exact absurd hp (by rw [stickPieces]; exact List.not_mem_nil)
  | succ n ih =>
    obtain ⟨ih1, ih2⟩ := ih (by omega)
    have e := stickPieces_succ (F := Ideal) 𝒱 c bd i arg2 harg2 arg3 harg3 arg4 harg4 arg5 harg5 (iota .tc S128x256 32 [0] iota_S128x256_d0_w32) (iota .tc S128x256 32 [1] iota_S128x256_d1_w32) X2 X3 X4 ⟨n, show n < 16 by omega⟩
    rw [trip_pieces] at e
    have e' : stickPieces (F := Ideal) 𝒱 c bd i arg2 harg2 arg3 harg3 arg4 harg4 arg5 harg5 (iota .tc S128x256 32 [0] iota_S128x256_d0_w32) (iota .tc S128x256 32 [1] iota_S128x256_d1_w32) X2 X3 X4 (n + 1) = _ := e
    rw [e']
    refine ⟨fun p hp x => ?_, fun y hy => ?_⟩
    · rcases List.mem_cons.mp hp with rfl | hp
      · exact (blockOut_of _ _ _ ⟨n, show n < 16 by omega⟩ x _ (off1_at _ x).1 (off1_at _ x).2).symm
      · exact ih1 p hp x
    · by_cases hy' : (y 1).val < 128 * n
      · obtain ⟨p, hp, hm⟩ := ih2 y hy'
        exact ⟨p, List.mem_cons_of_mem _ hp, hm⟩
      · refine ⟨_, List.mem_cons_self, ?_⟩
        exact mem_off1 ⟨n, show n < 16 by omega⟩ y (show 128 * n ≤ (y 1).val by omega) (show (y 1).val < 128 * n + 128 by omega)

end Trips

/-- The output block of a grid point, from its query, key and value blocks. -/
theorem out_at (m : (ℓ : Loc nD τ sig) → Buf (Elt Ideal) ℓ) (c : Dev nD) (t : Fin cfg0.N) (y : S1x2048x128.Idx) :
    outsAt0 m c t y = blockOut (iblk m c 0 t) (iblk m c 1 t) (iblk m c 2 t) y := by
  unfold outsAt0 bodyOut bodyRun
  dsimp only
  have h := pieces Variants.none c none (grid0.coords t) (ms0_0 t) (hs0_0 t) (ms0_1 t) (hs0_1 t) (ms0_2 t) (hs0_2 t) (ms0_3 t) (hs0_3 t)
    ((hs0_0 t).unread (iblk m c 0 t)) ((hs0_1 t).unread (iblk m c 1 t)) ((hs0_2 t).unread (iblk m c 2 t)) 16 le_rfl
  rw [(hs0_0 t).read_unread, (hs0_1 t).read_unread, (hs0_2 t).read_unread] at h
  exact View.read_writes_apply_of_pieces outView _ _ _ h.1 y (h.2 y (by have : (y 1).val < 2048 := (y 1).isLt; omega))

end Cert.StickIdeal.Val
end
-- ==== Proof.StickMath.lean ====
module

public import proofs.«01_k».proof.Proof.Finite

/-!
# Stick-breaking weights: the arithmetic

The logarithm of the logistic function in the form the kernel takes, and in the form the library function of the reference
takes, agree on real numbers. The sums over the later positions are written over intervals of natural numbers; a block of 256
positions is put in front of the blocks already summed.
-/

@[expose] public section

set_option maxRecDepth 16384

noncomputable section

open Idealize.ShloMosaic Idealize.ShloMosaic.TcCoe Idealize.SL.Sem

namespace Cert.Stk
open Cert.Finite

/-- `log (1 + exp (-|z|))`. -/
def ell (z : EReal) : EReal := Ideal.log (1 + Ideal.exp (0 - max z (-z)))

/-- The logarithm of the logistic function at `z`, as the kernel has it. -/
def lb (z : EReal) : EReal := min z 0 - ell z

/-- The logarithm of one minus the logistic function at `z`, as the kernel has it. -/
def l1 (z : EReal) : EReal := min (0 - z) 0 - ell z

/-- The softplus of the reference, and the logarithm of the logistic function from it. -/
def softplus (y : EReal) : EReal := max y 0 + Ideal.log1p (Ideal.exp (-(max (y - 0) (-(y - 0)))))
def logSig (z : EReal) : EReal := -(softplus (-z))

/-- `ell` on real numbers. -/
theorem ell_coe (r : ℝ) : ell (r : EReal) = ((Real.log (1 + Real.exp (-|r|)) : ℝ) : EReal) := by
  have e1 : (0 : EReal) - max (r : EReal) (-(r : EReal)) = ((-|r| : ℝ) : EReal) := by
    rw [← EReal.coe_neg, ← EReal.coe_strictMono.monotone.map_max, ← EReal.coe_zero, ← EReal.coe_sub, zero_sub]
    rfl
  have e2 : (1 : EReal) + Ideal.exp ((-|r| : ℝ) : EReal) = ((1 + Real.exp (-|r|) : ℝ) : EReal) := by
    show (1 : EReal) + ((Real.exp (-|r|) : ℝ) : EReal) = _
    rw [EReal.coe_add, EReal.coe_one]
  have hp : 0 < 1 + Real.exp (-|r|) := by positivity
  unfold ell
  rw [e1, e2]
  show (if 1 + Real.exp (-|r|) ≤ 0 then (⊥ : EReal) else _) = _
  rw [if_neg (not_le.mpr hp)]

theorem lb_coe (r : ℝ) : lb (r : EReal) = ((min r 0 - Real.log (1 + Real.exp (-|r|)) : ℝ) : EReal) := by
  unfold lb
  rw [ell_coe, EReal.coe_sub, EReal.coe_strictMono.monotone.map_min, EReal.coe_zero]

theorem l1_coe (r : ℝ) : l1 (r : EReal) = ((min (-r) 0 - Real.log (1 + Real.exp (-|r|)) : ℝ) : EReal) := by
  unfold l1
  rw [ell_coe, EReal.coe_sub, EReal.coe_strictMono.monotone.map_min, EReal.coe_zero, EReal.coe_neg, zero_sub]

theorem l1_real {z : EReal} (h : IsReal z) : IsReal (l1 z) := by
  obtain ⟨r, rfl⟩ := h
  exact ⟨_, l1_coe r⟩

/-- On real numbers the two forms agree. -/
theorem logSig_coe (r : ℝ) : logSig (r : EReal) = lb (r : EReal) := by
  have e := ell_coe r
  unfold ell at e
  unfold logSig softplus
  have e1 : -(max (-(r : EReal) - 0) (-(-(r : EReal) - 0))) = 0 - max (r : EReal) (-(r : EReal)) := by
    rw [sub_zero, neg_neg, max_comm, zero_sub]
  rw [e1, lb_coe]
  unfold Ideal.log1p
  rw [e, ← EReal.coe_neg, ← EReal.coe_zero, ← EReal.coe_strictMono.monotone.map_max, ← EReal.coe_add, ← EReal.coe_neg]
  congr 1
  have : max (-r) 0 = -(min r 0) := by rw [← max_neg_neg, neg_zero]
  rw [this]
  ring

theorem logSig_eq {z : EReal} (h : IsReal z) : logSig z = lb z := by
  obtain ⟨r, rfl⟩ := h
  exact logSig_coe r

theorem logSig_neg {z : EReal} (h : IsReal z) : logSig (-z) = l1 z := by
  obtain ⟨r, rfl⟩ := h
  rw [← EReal.coe_neg, logSig_coe, lb_coe, l1_coe, abs_neg]

theorem IsReal.sub_self {x : EReal} (h : IsReal x) : x - x = 0 := by
  obtain ⟨r, rfl⟩ := h
  rw [← EReal.coe_sub, _root_.sub_self, EReal.coe_zero]

theorem exp_bot : Ideal.exp ⊥ = 0 := rfl

/-- Taking a real term off a sum that has it. -/
theorem add_sub_cancel_real {x : EReal} (h : IsReal x) {y : EReal} (hy : IsReal y) : (x + y) - x = y := by
  obtain ⟨r, rfl⟩ := h
  obtain ⟨u, rfl⟩ := hy
  rw [← EReal.coe_add, ← EReal.coe_sub]
  congr 1
  ring

/-- The masks over positions: only those before the query count. -/
def lbM (Z : ℕ → EReal) (t s : ℕ) : EReal := if s < t then lb (Z s) else ⊥
def l1M (Z : ℕ → EReal) (t s : ℕ) : EReal := if s < t then l1 (Z s) else 0

/-- The sum of the logarithms from position `s` on. -/
def tail (Z : ℕ → EReal) (t s : ℕ) : EReal := ∑ j ∈ Finset.Ico s 2048, l1M Z t j

/-- The weight of position `s`. -/
def weight (Z : ℕ → EReal) (t s : ℕ) : EReal := Ideal.exp (lbM Z t s + tail Z t (s + 1))

/-- The weighted values from position `s` on. -/
def acc (Z v : ℕ → EReal) (t s : ℕ) : EReal := ∑ j ∈ Finset.Ico s 2048, weight Z t j * v j

theorem l1M_real (Z : ℕ → EReal) (h : ∀ n, IsReal (Z n)) (t s : ℕ) : IsReal (l1M Z t s) := by
  unfold l1M
  split
  · exact l1_real (h s)
  · exact isReal_zero

theorem isReal_sum_finset {f : ℕ → EReal} (s : Finset ℕ) (h : ∀ i, IsReal (f i)) : IsReal (∑ i ∈ s, f i) :=
  Finset.sum_induction f IsReal (fun _ _ => IsReal.add) isReal_zero fun i _ => h i

/-- One block's positions after `i`, by the matrix of ones below the diagonal; the remainder of the rounding is zero. -/
theorem block_after (f : ℕ → EReal) (h : ∀ n, IsReal (f n)) (a : ℕ) (i : Fin 256) :
    (∑ j : Fin 256, f (a + j.val) * (if j.val > i.val then 1 else 0))
      + (∑ j : Fin 256, (f (a + j.val) - f (a + j.val)) * (if j.val > i.val then 1 else 0))
      = ∑ j ∈ Finset.Ico (a + i.val + 1) (a + 256), f j := by
  have z : (∑ j : Fin 256, (f (a + j.val) - f (a + j.val)) * (if j.val > i.val then 1 else 0)) = 0 :=
    Finset.sum_eq_zero fun j _ => by rw [IsReal.sub_self (h _), zero_mul]
  rw [z, add_zero, ← Finset.sum_range (fun j => f (a + j) * (if j > i.val then (1 : EReal) else 0))]
  rw [show a + i.val + 1 = i.val + 1 + a by omega, show a + 256 = 256 + a by omega,
    ← Finset.sum_Ico_add' f (i.val + 1) 256 a]
  symm
  refine Finset.sum_subset_zero_on_sdiff (fun j hj => ?_) (fun j hj => ?_) fun j hj => ?_
  · rw [Finset.mem_Ico] at hj
    exact Finset.mem_range.mpr hj.2
  · rw [Finset.mem_sdiff, Finset.mem_range, Finset.mem_Ico] at hj
    rw [if_neg (by omega), mul_zero]
  · rw [Finset.mem_Ico] at hj
    rw [if_pos (by omega), mul_one, add_comm]

/-- A block's sum as a sum over an interval. -/
theorem block_sum (f : ℕ → EReal) (a : ℕ) : ∑ j : Fin 256, f (a + j.val) = ∑ j ∈ Finset.Ico a (a + 256), f j := by
  rw [← Finset.sum_range (fun j => f (a + j)), Finset.sum_Ico_eq_sum_range]
  simp

/-- What one block's matrix products give at position `i`, over any logarithms `B` and `P`, and the sum `T` so far. -/
def inBlock (B P : Fin 256 → EReal) (T : EReal) (i : Fin 256) : EReal :=
  Ideal.exp ((B i + ((∑ j : Fin 256, P j * (if j.val > i.val then 1 else 0))
    + ∑ j : Fin 256, (P j - P j) * (if j.val > i.val then 1 else 0))) + T)

/-- The block from position `a` before the blocks from position `a + 256`. -/
theorem inBlock_weight (Z : ℕ → EReal) (h : ∀ n, IsReal (Z n)) (t a : ℕ) (ha : a + 256 ≤ 2048) (i : Fin 256) :
    inBlock (fun j => lbM Z t (a + j.val)) (fun j => l1M Z t (a + j.val)) (tail Z t (a + 256)) i = weight Z t (a + i.val) := by
  unfold inBlock weight
  rw [block_after (l1M Z t) (l1M_real Z h t) a i, add_assoc]
  unfold tail
  rw [Finset.sum_Ico_consecutive _ (by omega) ha]

theorem tail_block (Z : ℕ → EReal) (t a : ℕ) (ha : a + 256 ≤ 2048) :
    tail Z t (a + 256) + ∑ j : Fin 256, l1M Z t (a + j.val) = tail Z t a := by
  rw [block_sum (l1M Z t), add_comm]
  exact Finset.sum_Ico_consecutive _ (by omega) ha

theorem acc_block (Z v : ℕ → EReal) (t a : ℕ) (ha : a + 256 ≤ 2048) :
    acc Z v t (a + 256) + ∑ j : Fin 256, weight Z t (a + j.val) * v (a + j.val) = acc Z v t a := by
  rw [block_sum (fun s => weight Z t s * v s), add_comm]
  exact Finset.sum_Ico_consecutive _ (by omega) ha

/-- From the query on, nothing counts. -/
theorem tail_zero (Z : ℕ → EReal) (t a : ℕ) (h : t ≤ a) : tail Z t a = 0 :=
  Finset.sum_eq_zero fun j hj => if_neg (by have := Finset.mem_Ico.mp hj; omega)

theorem weight_zero (Z : ℕ → EReal) (t s : ℕ) (h : t ≤ s) : weight Z t s = 0 := by
  unfold weight lbM
  rw [if_neg (by omega), EReal.bot_add]
  rfl

theorem acc_zero (Z v : ℕ → EReal) (t a : ℕ) (h : t ≤ a) : acc Z v t a = 0 :=
  Finset.sum_eq_zero fun j hj => by rw [weight_zero Z t j (by have := Finset.mem_Ico.mp hj; omega), zero_mul]

/-- The float word of −∞. -/
theorem ofBits_bot : Ideal.ofBits .f32 0xFF800000#32 = ⊥ := by
  simp [Ideal.ofBits, Ideal.ieee]

/-- Comparing two small numbers as 32-bit words. -/
theorem slt_bit (a b : ℕ) (ha : a < 2048) (hb : b < 2048) :
    IntOp.cmpi CmpIPredicate.slt (BitVec.ofNat 32 a) (BitVec.ofNat 32 b) = if a < b then 1#1 else 0#1 := by
  have e1 : (BitVec.ofNat 32 a).toInt = (a : ℤ) := by
    rw [BitVec.toInt_eq_toNat_of_lt (by rw [BitVec.toNat_ofNat]; omega), BitVec.toNat_ofNat]; omega
  have e2 : (BitVec.ofNat 32 b).toInt = (b : ℤ) := by
    rw [BitVec.toInt_eq_toNat_of_lt (by rw [BitVec.toNat_ofNat]; omega), BitVec.toNat_ofNat]; omega
  show BitVec.ofBool ((BitVec.ofNat 32 a).slt (BitVec.ofNat 32 b)) = _
  unfold BitVec.slt
  rw [e1, e2]
  by_cases h : a < b
  · rw [if_pos h, decide_eq_true (by omega)]; rfl
  · rw [if_neg h, decide_eq_false (by omega)]; rfl

theorem sgt_bit (a b : ℕ) (ha : a < 2048) (hb : b < 2048) :
    IntOp.cmpi CmpIPredicate.sgt (BitVec.ofNat 32 a) (BitVec.ofNat 32 b) = if a > b then 1#1 else 0#1 :=
  slt_bit b a hb ha

end Cert.Stk
end
-- ==== Proof.StickKernel.lean ====
module

public import proofs.«01_k».proof.Proof.StickTrips
public import proofs.«01_k».proof.Proof.StickMath

/-!
# The stick-breaking attention: what a trip stores is the sum of weighted values

The matrix of ones below the diagonal, the two lane masks and the mask of the first block are read at an index; then the pair
carried through the key blocks is the sum of the weighted values, and of the logarithms, from the lowest block on.
-/

@[expose] public section

set_option maxRecDepth 16384

noncomputable section

open Idealize.ShloMosaic Idealize.ShloMosaic.TcCoe Idealize.SL.Sem

namespace Cert.StickIdeal.Val
open Cert.StickIdeal Cert.StickIdeal.Gen Cert.Stk Cert.Finite

/-- The lane mask of head `h` at lane `l`. -/
def headMask (h : Fin 2) (l : Fin 128) : EReal := if l.val / 64 = h.val then 1 else 0

theorem below_bit : ∀ l : Fin 128, IntOp.cmpi CmpIPredicate.slt (BitVec.ofNat 32 l.val) 64#32 = if l.val < 64 then 1#1 else 0#1 := by
  decide +kernel

theorem float_one : (FloatOps.sitofp FTy.f32 (1#32) : Ideal .f32) = (1 : EReal) := by
  show ((((1#32 : BitVec 32).toInt : ℤ) : ℝ) : EReal) = 1
  have e : (1#32 : BitVec 32).toInt = 1 := by decide
  rw [e, Int.cast_one, EReal.coe_one]

theorem float_zero : (FloatOps.sitofp FTy.f32 (0#32) : Ideal .f32) = (0 : EReal) := by
  show ((((0#32 : BitVec 32).toInt : ℤ) : ℝ) : EReal) = 0
  have e : (0#32 : BitVec 32).toInt = 0 := by decide
  rw [e, Int.cast_zero, EReal.coe_zero]

theorem mask0 (l : Fin 128) : (k0_pay2 (F := Ideal)) (ix2 0 l) = headMask 0 l := by
  have e : (k0_pay2 (F := Ideal)) (ix2 0 l)
      = (FloatOps.sitofp FTy.f32 (BitVec.setWidth 32 (IntOp.cmpi CmpIPredicate.slt (BitVec.ofNat 32 l.val) 64#32)) : Ideal FTy.f32) := by
    pointwise [k0_pay2, k0_pay1]
  rw [e, below_bit]
  by_cases h : l.val < 64
  · have h' : l.val / 64 = (0 : Fin 2).val := by show _ = 0; omega
    unfold headMask
    rw [if_pos h, if_pos h']
    exact float_one
  · have h' : ¬ l.val / 64 = (0 : Fin 2).val := by show ¬ _ = 0; omega
    unfold headMask
    rw [if_neg h, if_neg h']
    exact float_zero

theorem mask1 (l : Fin 128) : (k0_pay3 (F := Ideal)) (ix2 0 l) = headMask 1 l := by
  have hl := l.isLt
  have e : (k0_pay3 (F := Ideal)) (ix2 0 l)
      = (FloatOps.sitofp FTy.f32 (BitVec.setWidth 32 (IntOp.xori (IntOp.cmpi CmpIPredicate.slt (BitVec.ofNat 32 l.val) 64#32) 1#1)) : Ideal FTy.f32) := by
    pointwise [k0_pay3, k0_pay1]
  rw [e, below_bit]
  by_cases h : l.val < 64
  · have h' : ¬ l.val / 64 = (1 : Fin 2).val := by show ¬ _ = 1; omega
    unfold headMask
    rw [if_pos h, if_neg h']
    exact float_zero
  · have h' : l.val / 64 = (1 : Fin 2).val := by show _ = 1; omega
    unfold headMask
    rw [if_neg h, if_pos h']
    exact float_one

/-- The matrix of ones below the diagonal. -/
theorem below_at (j i : Fin 256) : (k0_pay4 (F := Ideal)) (ix2 j i) = if j.val > i.val then (1 : EReal) else 0 := by
  have e : (k0_pay4 (F := Ideal)) (ix2 j i)
      = (FloatOps.sitofp FTy.f32 (BitVec.setWidth 32 (IntOp.cmpi CmpIPredicate.sgt (BitVec.ofNat 32 j.val) (BitVec.ofNat 32 i.val))) : Ideal FTy.f32) := by
    pointwise [k0_pay4]
  rw [e, sgt_bit _ _ (by omega) (by omega)]
  by_cases h : j.val > i.val
  · rw [if_pos h, if_pos h]; exact float_one
  · rw [if_neg h, if_neg h]; exact float_zero

/-- How far the trip's first row is into its first key block. -/
theorem shift_word : ∀ k : Fin k0_t1_loop.trips, (
    let arg6 : BitVec 32 := Scf.iv 0#32 1#32 k
    let v24 : BitVec 32 := Scalar.divsi arg6 2#32
    let v29 : BitVec 32 := Scalar.subi (Scalar.extui (Scalar.cmpi .sgt arg6 0#32)) (Scalar.extui (Scalar.cmpi .slt arg6 0#32))
    let v34 : BitVec 32 := Scalar.subi (Scalar.extui (Scalar.cmpi .sgt 2#32 0#32)) (Scalar.extui (Scalar.cmpi .slt 2#32 0#32))
    let v38 : BitVec 1 := Scalar.andi (Scalar.cmpi .ne v29 v34) (Scalar.cmpi .ne (Scalar.remsi arg6 2#32) 0#32)
    Scalar.subi (Scalar.muli arg6 128#32) (Scalar.muli (Scalar.select v38 (Scalar.subi v24 1#32) v24) 256#32))
      = BitVec.ofNat 32 (128 * (k.val % 2)) := by
  decide +kernel

/-- The mask of the first block: the positions before the query. -/
theorem mask_at (k : Fin k0_t1_loop.trips) (r : Fin 128) (i : Fin 256) :
    mask k (ix2 r i) = if 256 * (k.val / 2) + i.val < 128 * k.val + r.val then 1#1 else 0#1 := by
  have e : mask k (ix2 r i)
      = IntOp.cmpi CmpIPredicate.slt (BitVec.ofNat 32 i.val) (IntOp.addi (BitVec.ofNat 32 r.val) (BitVec.ofNat 32 (128 * (k.val % 2)))) := by
    rw [← shift_word k]
    unfold mask
    pointwise [k0_pay27]
  rw [e]
  have a : IntOp.addi (BitVec.ofNat 32 r.val) (BitVec.ofNat 32 (128 * (k.val % 2))) = BitVec.ofNat 32 (r.val + 128 * (k.val % 2)) :=
    (BitVec.ofNat_add _ _).symm
  rw [a, slt_bit _ _ (by omega) (by omega)]
  by_cases h : 256 * (k.val / 2) + i.val < 128 * k.val + r.val
  · rw [if_pos h, if_pos (by omega)]
  · rw [if_neg h, if_neg (by omega)]

theorem select_mask (k : Fin k0_t1_loop.trips) (r : Fin 128) (i : Fin 256) (a b : EReal) :
    Scalar.select (mask k (ix2 r i)) a b = if 256 * (k.val / 2) + i.val < 128 * k.val + r.val then a else b := by
  rw [mask_at]
  by_cases h : 256 * (k.val / 2) + i.val < 128 * k.val + r.val
  · simp only [if_pos h]; rfl
  · simp only [if_neg h]; rfl

/-- The products of the queries with one key block. -/
def prod (q : FVec Ideal S128x128 .bf16) (ky : Vec Ideal S1x256x128 .bf16) (r : Fin 128) (i : Fin 256) : EReal :=
  ∑ l : Fin 128, q (ix2 r l) * ky (ix3 0 i l)

theorem pay6_at (q : FVec Ideal S128x128 .bf16) (ky : Vec Ideal S1x256x128 .bf16) (r : Fin 128) (i : Fin 256) :
    k0_pay6 (F := Ideal) q ky (ix2 r i) = prod q ky r i := by
  unfold prod
  pointwise [k0_pay6]

theorem pay39_at (q : FVec Ideal S128x128 .bf16) (ky : Vec Ideal S1x256x128 .bf16) (r : Fin 128) (i : Fin 256) :
    k0_pay39 (F := Ideal) q ky (ix2 r i) = prod q ky r i := by
  unfold prod
  pointwise [k0_pay39]

theorem ofBits_one : Ideal.ofBits .f32 0x3F800000#32 = 1 := by
  simp [Ideal.ofBits, Ideal.ieee]
  rw [← EReal.coe_mul, ← EReal.coe_one]
  congr 1
  norm_num

theorem pay7_at (q : FVec Ideal S128x128 .bf16) (ky : Vec Ideal S1x256x128 .bf16) (r : Fin 128) (i : Fin 256) :
    k0_pay7 (F := Ideal) q ky (ix2 r i) = ell (prod q ky r i) := by
  unfold ell
  pointwise [k0_pay7, pay6_at, ofBits_one]
  rfl

theorem pay40_at (q : FVec Ideal S128x128 .bf16) (ky : Vec Ideal S1x256x128 .bf16) (r : Fin 128) (i : Fin 256) :
    k0_pay40 (F := Ideal) q ky (ix2 r i) = ell (prod q ky r i) := by
  unfold ell
  pointwise [k0_pay40, pay39_at, ofBits_one]
  rfl

theorem pay8_at (q : FVec Ideal S128x128 .bf16) (ky : Vec Ideal S1x256x128 .bf16) (r : Fin 128) (i : Fin 256) :
    k0_pay8 (F := Ideal) q ky (ix2 r i) = l1 (prod q ky r i) := by
  unfold l1
  pointwise [k0_pay8, pay6_at, pay7_at]

theorem pay41_at (q : FVec Ideal S128x128 .bf16) (ky : Vec Ideal S1x256x128 .bf16) (k : Fin k0_t1_loop.trips) (r : Fin 128) (i : Fin 256) :
    k0_pay41 (F := Ideal) (mask k) q ky (ix2 r i)
      = if 256 * (k.val / 2) + i.val < 128 * k.val + r.val then l1 (prod q ky r i) else 0 := by
  rw [← select_mask]
  unfold l1
  generalize mask k = M
  pointwise [k0_pay41, pay39_at, pay40_at]

/-- One more block, at an index. -/
theorem step_acc (q : FVec Ideal S128x128 .bf16) (ky vy : Vec Ideal S1x256x128 .bf16)
    (a : FVec Ideal S128x128 .f32 × FVec Ideal S128x1 .f32) (r n : Fin 128) :
    (step q ky vy a).1 (ix2 r n) = a.1 (ix2 r n)
      + ∑ i : Fin 256, inBlock (fun j => lb (prod q ky r j)) (fun j => l1 (prod q ky r j)) (a.2 (ix2 r 0)) i * vy (ix3 0 i n) := by
  obtain ⟨a1, a2⟩ := a
  unfold step inBlock lb
  dsimp only
  pointwise [k0_pay10, pay6_at, pay7_at, pay8_at, below_at]

theorem step_tail (q : FVec Ideal S128x128 .bf16) (ky vy : Vec Ideal S1x256x128 .bf16)
    (a : FVec Ideal S128x128 .f32 × FVec Ideal S128x1 .f32) (r : Fin 128) :
    (step q ky vy a).2 (ix2 r 0) = a.2 (ix2 r 0) + ∑ j : Fin 256, l1 (prod q ky r j) := by
  obtain ⟨a1, a2⟩ := a
  unfold step
  dsimp only
  pointwise [k0_pay9, pay8_at]

/-- The first block, at an index. -/
theorem first_acc (q : FVec Ideal S128x128 .bf16) (ky vy : Vec Ideal S1x256x128 .bf16) (k : Fin k0_t1_loop.trips) (r n : Fin 128) :
    (first q ky vy k).1 (ix2 r n)
      = ∑ i : Fin 256, inBlock (fun j => if 256 * (k.val / 2) + j.val < 128 * k.val + r.val then lb (prod q ky r j) else ⊥)
          (fun j => if 256 * (k.val / 2) + j.val < 128 * k.val + r.val then l1 (prod q ky r j) else 0) 0 i * vy (ix3 0 i n) := by
  unfold first inBlock lb
  dsimp only
  pointwise [k0_pay42, k0_pay38, pay39_at, pay40_at, pay41_at, below_at, select_mask, ofBits_bot]

theorem first_tail (q : FVec Ideal S128x128 .bf16) (ky vy : Vec Ideal S1x256x128 .bf16) (k : Fin k0_t1_loop.trips) (r : Fin 128) :
    (first q ky vy k).2 (ix2 r 0)
      = 0 + ∑ j : Fin 256, if 256 * (k.val / 2) + j.val < 128 * k.val + r.val then l1 (prod q ky r j) else 0 := by
  unfold first
  dsimp only
  pointwise [k0_pay43, k0_pay38, pay41_at]

/-- The products of one query row with all the keys, by position. -/
def zRow (q : FVec Ideal S128x128 .bf16) (x1 : Vec Ideal S1x2048x128 .bf16) (r : Fin 128) (s : ℕ) : EReal :=
  if h : s < 2048 then ∑ l : Fin 128, q (ix2 r l) * x1 (ix3 0 ⟨s, h⟩ l) else 0

/-- One lane of the values, by position. -/
def vCol (x2 : Vec Ideal S1x2048x128 .bf16) (n : Fin 128) (s : ℕ) : EReal :=
  if h : s < 2048 then x2 (ix3 0 ⟨s, h⟩ n) else 0

theorem prod_blk (q : FVec Ideal S128x128 .bf16) (x1 : Vec Ideal S1x2048x128 .bf16) (b : Fin 8) (r : Fin 128) (i : Fin 256) :
    prod q (kBlk x1 b) r i = zRow q x1 r (256 * b.val + i.val) := by
  unfold prod zRow
  rw [dif_pos (by omega)]
  rfl

theorem value_blk (x2 : Vec Ideal S1x2048x128 .bf16) (b : Fin 8) (n : Fin 128) (i : Fin 256) :
    kBlk x2 b (ix3 0 i n) = vCol x2 n (256 * b.val + i.val) := by
  unfold vCol
  rw [dif_pos (by omega)]
  rfl

/-- After `n` further blocks the pair is the sums from the lowest block on. -/
theorem after_at (q : FVec Ideal S128x128 .bf16) (x1 x2 : Vec Ideal S1x2048x128 .bf16) (k : Fin k0_t1_loop.trips) (r : Fin 128)
    (hz : ∀ s, IsReal (zRow q x1 r s)) (n : ℕ) (hn : n ≤ k.val / 2) :
    (∀ c : Fin 128, (after q x1 x2 k n).1 (ix2 r c)
        = acc (zRow q x1 r) (vCol x2 c) (128 * k.val + r.val) (256 * (k.val / 2 - n)))
    ∧ (after q x1 x2 k n).2 (ix2 r 0) = tail (zRow q x1 r) (128 * k.val + r.val) (256 * (k.val / 2 - n)) := by
  have hk := trip_lt k
  induction n with
  | zero =>
    have h0 : tail (zRow q x1 r) (128 * k.val + r.val) (256 * (k.val / 2) + 256) = 0 := tail_zero _ _ _ (by omega)
    have e1 : (fun j : Fin 256 => if 256 * (k.val / 2) + j.val < 128 * k.val + r.val then lb (prod q (kBlk x1 (diag k)) r j) else ⊥)
        = fun j => lbM (zRow q x1 r) (128 * k.val + r.val) (256 * (k.val / 2) + j.val) := by
      funext j
      rw [prod_blk]
      rfl
    have e2 : (fun j : Fin 256 => if 256 * (k.val / 2) + j.val < 128 * k.val + r.val then l1 (prod q (kBlk x1 (diag k)) r j) else 0)
        = fun j => l1M (zRow q x1 r) (128 * k.val + r.val) (256 * (k.val / 2) + j.val) := by
      funext j
      rw [prod_blk]
      rfl
    rw [Nat.sub_zero]
    refine ⟨fun c => ?_, ?_⟩
    · show (first q (kBlk x1 (diag k)) (kBlk x2 (diag k)) k).1 (ix2 r c) = _
      rw [first_acc, e1, e2, ← acc_block _ _ _ _ (by omega), acc_zero _ _ _ (256 * (k.val / 2) + 256) (by omega), zero_add]
      refine Finset.sum_congr rfl fun i _ => ?_
      rw [← h0, inBlock_weight _ hz _ _ (by omega), value_blk]
    · show (first q (kBlk x1 (diag k)) (kBlk x2 (diag k)) k).2 (ix2 r 0) = _
      rw [first_tail, e2, ← tail_block _ _ _ (by omega), h0]
  | succ n ih =>
    obtain ⟨ih1, ih2⟩ := ih (by omega)
    have ea : 256 * (k.val / 2 - n) = 256 * (back k n).val + 256 := by show _ = 256 * (k.val / 2 - 1 - n) + 256; omega
    have eb : 256 * (k.val / 2 - (n + 1)) = 256 * (back k n).val := by show _ = 256 * (k.val / 2 - 1 - n); omega
    have hb : 256 * (back k n).val + 256 ≤ 128 * k.val := by show 256 * (k.val / 2 - 1 - n) + 256 ≤ _; omega
    have e1 : (fun j : Fin 256 => lb (prod q (kBlk x1 (back k n)) r j))
        = fun j => lbM (zRow q x1 r) (128 * k.val + r.val) (256 * (back k n).val + j.val) := by
      funext j
      unfold lbM
      rw [prod_blk, if_pos (by omega)]
    have e2 : (fun j : Fin 256 => l1 (prod q (kBlk x1 (back k n)) r j))
        = fun j => l1M (zRow q x1 r) (128 * k.val + r.val) (256 * (back k n).val + j.val) := by
      funext j
      unfold l1M
      rw [prod_blk, if_pos (by omega)]
    rw [eb]
    rw [ea] at ih1 ih2
    refine ⟨fun c => ?_, ?_⟩
    · show (step q (kBlk x1 (back k n)) (kBlk x2 (back k n)) (after q x1 x2 k n)).1 (ix2 r c) = _
      rw [step_acc, ih1, ih2, e1, e2, ← acc_block _ _ _ (256 * (back k n).val) (by omega)]
      refine congrArg₂ (· + ·) rfl (Finset.sum_congr rfl fun i _ => ?_)
      rw [inBlock_weight _ hz _ _ (by omega), value_blk]
    · show (step q (kBlk x1 (back k n)) (kBlk x2 (back k n)) (after q x1 x2 k n)).2 (ix2 r 0) = _
      rw [step_tail, ih2, e2, ← tail_block _ _ (256 * (back k n).val) (by omega)]

/-- The queries of a head: the other head's lanes times zero. -/
theorem q0_at (x0 : Vec Ideal S1x2048x128 .bf16) (k : Fin k0_t1_loop.trips) (r l : Fin 128) :
    q0 x0 k (ix2 r l) = qWin x0 k (ix3 0 r l) * headMask 0 l := by
  unfold q0
  generalize qWin x0 k = q
  pointwise [k0_pay28, k0_pay26, mask0]

theorem q1_at (x0 : Vec Ideal S1x2048x128 .bf16) (k : Fin k0_t1_loop.trips) (r l : Fin 128) :
    q1 x0 k (ix2 r l) = qWin x0 k (ix3 0 r l) * headMask 1 l := by
  unfold q1
  generalize qWin x0 k = q
  pointwise [k0_pay37, k0_pay26, mask1]

/-- The products of a query row with the keys, in one head's lanes. -/
def zHead (x0 x1 : Vec Ideal S1x2048x128 .bf16) (h : Fin 2) (k : Fin k0_t1_loop.trips) (r : Fin 128) (s : ℕ) : EReal :=
  if hs : s < 2048 then ∑ l : Fin 128, qWin x0 k (ix3 0 r l) * headMask h l * x1 (ix3 0 ⟨s, hs⟩ l) else 0

/-- What a trip stores, at an index. -/
theorem trip_at (x0 x1 x2 : Vec Ideal S1x2048x128 .bf16) (k : Fin k0_t1_loop.trips) (r n : Fin 128) (h : Fin 2) (hn : n.val / 64 = h.val)
    (hz : ∀ h s, IsReal (zHead x0 x1 h k r s)) :
    tripOut x0 x1 x2 k (ix3 0 r n) = acc (zHead x0 x1 h k r) (vCol x2 n) (128 * k.val + r.val) 0 := by
  have hl := n.isLt
  have z0 : zRow (q0 x0 k) x1 r = zHead x0 x1 0 k r := by
    funext s
    unfold zRow zHead
    simp only [q0_at]
  have z1 : zRow (q1 x0 k) x1 r = zHead x0 x1 1 k r := by
    funext s
    unfold zRow zHead
    simp only [q1_at]
  have a0 := (after_at (q0 x0 k) x1 x2 k r (by rw [z0]; exact hz 0) (k.val / 2) le_rfl).1 n
  have a1 := (after_at (q1 x0 k) x1 x2 k r (by rw [z1]; exact hz 1) (k.val / 2) le_rfl).1 n
  rw [Nat.sub_self, Nat.mul_zero, z0] at a0
  rw [Nat.sub_self, Nat.mul_zero, z1] at a1
  unfold tripOut
  generalize (after (q0 x0 k) x1 x2 k (k.val / 2)).1 = A0 at a0 ⊢
  generalize (after (q1 x0 k) x1 x2 k (k.val / 2)).1 = A1 at a1 ⊢
  pointwise [k0_pay5, k0_pay1]
  rw [below_bit]
  by_cases hh : n.val < 64
  · have e : h = 0 := Fin.ext (by show h.val = 0; omega)
    subst e
    simp only [if_pos hh]
    exact a0
  · have e : h = 1 := Fin.ext (by show h.val = 1; omega)
    subst e
    simp only [if_neg hh]
    exact a1

end Cert.StickIdeal.Val
end
-- ==== Proof.StickRef.lean ====
module

public import proofs.«01_k».proof.Proof.Gen.StickRefIdeal.Read
public import proofs.«01_k».proof.Proof.StickMath
public import Idealize.ShloMosaic.Lib.KernelVsHost

/-!
# The stick-breaking attention's reference at an index

The running sum of the reference, read at a position, is the sum from this position on; taking the position's own logarithm
off leaves the sum over the later positions. The result at batch `b`, query `t`, head `h`, lane `d` is the sum of the weighted
values.
-/

@[expose] public section

set_option maxRecDepth 16384

noncomputable section

open Idealize.ShloMosaic Idealize.ShloMosaic.TcCoe Idealize.SL.Sem

namespace Cert.StickRefIdeal.Spec
open Cert.StickRefIdeal Cert.StickRefIdeal.Gen Cert.StickRefIdeal.Read Cert.Stk Cert.Finite

/-- A column of head `h`, of the part of the projections starting at column `o`. -/
def colOf (o : Nat) (ho : o ≤ 2048) (h : Fin 16) (d : Fin 64) : Fin 3072 := ⟨o + 64 * h.val + d.val, by omega⟩

/-- The logits of query `t`, by position. -/
def zAt (x0 : Vec Ideal S16x2048x3072 .bf16) (b : Fin 16) (h : Fin 16) (t : Fin 2048) (s : ℕ) : EReal :=
  if hs : s < 2048 then
    ∑ d : Fin 64, x0 (ix3 b t (colOf 0 (by omega) h d)) * x0 (ix3 b ⟨s, hs⟩ (colOf 1024 (by omega) h d))
  else 0

/-- One column of the projections, by position. -/
def vAt (x0 : Vec Ideal S16x2048x3072 .bf16) (b : Fin 16) (col : Fin 3072) (s : ℕ) : EReal :=
  if hs : s < 2048 then x0 (ix3 b ⟨s, hs⟩ col) else 0

theorem query_at (x0 : Vec Ideal S16x2048x3072 .bf16) (b : Fin 16) (t : Fin 2048) (h : Fin 16) (d : Fin 64) :
    val_main_v3 (F := Ideal) x0 (ix4 b t h d) = x0 (ix3 b t (colOf 0 (by omega) h d)) := by
  pointwise [val_main_v3, val_main_v2, val_main_v1, val_main_v0]
  unfold colOf
  congr 2 <;> (refine Fin.ext ?_; dsimp only; omega)

theorem key_at (x0 : Vec Ideal S16x2048x3072 .bf16) (b : Fin 16) (t : Fin 2048) (h : Fin 16) (d : Fin 64) :
    val_main_v5 (F := Ideal) x0 (ix4 b t h d) = x0 (ix3 b t (colOf 1024 (by omega) h d)) := by
  pointwise [val_main_v5, val_main_v4, val_main_v1, val_main_v0]
  unfold colOf
  congr 2 <;> (refine Fin.ext ?_; dsimp only; omega)

theorem value_at (x0 : Vec Ideal S16x2048x3072 .bf16) (b : Fin 16) (t : Fin 2048) (h : Fin 16) (d : Fin 64) :
    val_main_v7 (F := Ideal) x0 (ix4 b t h d) = x0 (ix3 b t (colOf 2048 (by omega) h d)) := by
  pointwise [val_main_v7, val_main_v6, val_main_v1, val_main_v0]
  unfold colOf
  congr 2 <;> (refine Fin.ext ?_; dsimp only; omega)

/-- The logits. -/
theorem logit_at (x0 : Vec Ideal S16x2048x3072 .bf16) (b h : Fin 16) (t s : Fin 2048) :
    val_main_v8 (F := Ideal) x0 (ix4 b h t s) = zAt x0 b h t s.val := by
  unfold zAt
  rw [dif_pos s.isLt, val_main_v8_apply]
  refine Finset.sum_congr rfl fun d _ => ?_
  refine congrArg₂ (· * ·) (Eq.trans (congrArg (val_main_v3 (F := Ideal) x0) ?_) (query_at x0 b t h d))
    (Eq.trans (congrArg (val_main_v5 (F := Ideal) x0) ?_) (key_at x0 b s h d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The positions before the query. -/
theorem causal_at (t s : Fin 2048) : val_main_v15 (F := Ideal) (ix2 t s) = if s.val < t.val then 1#1 else 0#1 := by
  rw [← slt_bit _ _ s.isLt t.isLt]
  pointwise [val_main_v15, val_main_v14, val_main_v13, val_main_v12, val_main_v11, val_main_v10, val_main_v9]

theorem select_causal (t s : Fin 2048) (x y : EReal) :
    Scalar.select (val_main_v15 (F := Ideal) (ix2 t s)) x y = if s.val < t.val then x else y := by
  rw [causal_at]
  by_cases h : s.val < t.val
  · simp only [if_pos h]; rfl
  · simp only [if_neg h]; rfl

theorem cmp_self (x : EReal) : Ideal.cmp CmpFPredicate.une x x = 0#1 := by
  unfold Ideal.cmp
  simp

theorem ofBits_zero : Ideal.ofBits .f32 0x00000000#32 = 0 := by
  simp [Ideal.ofBits, Ideal.ieee]

/-- The library's softplus chooses by a comparison that is never true here. -/
theorem softplus_words (z w : EReal) :
    -(Scalar.select (Ideal.cmp CmpFPredicate.une (-z - Ideal.ofBits .f32 0x00000000#32) (-z - Ideal.ofBits .f32 0x00000000#32)) w
      (max (-z) (Ideal.ofBits .f32 0x00000000#32) + Ideal.log1p (Ideal.exp (-(max (-z - Ideal.ofBits .f32 0x00000000#32)
        (-(-z - Ideal.ofBits .f32 0x00000000#32))))))) = logSig z := by
  rw [cmp_self, ofBits_zero]
  rfl

/-- The library's logarithm of the logistic function, at an index. -/
theorem logSig_at (x0 : Vec Ideal S16x2048x3072 .bf16) (b h : Fin 16) (t s : Fin 2048) :
    val_main_v16 (F := Ideal) x0 (ix4 b h t s) = logSig (val_main_v8 (F := Ideal) x0 (ix4 b h t s)) := by
  rw [val_main_v16_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply,
    val_main_call0_call0_cst_apply]
  generalize val_main_v8 (F := Ideal) x0 (ix4 b h t s) = z
  exact softplus_words z _

theorem logSig_neg_at (x0 : Vec Ideal S16x2048x3072 .bf16) (b h : Fin 16) (t s : Fin 2048) :
    val_main_v19 (F := Ideal) x0 (ix4 b h t s) = logSig (-(val_main_v8 (F := Ideal) x0 (ix4 b h t s))) := by
  rw [val_main_v19_apply, val_main_call2_v1_apply, val_main_call2_call0_v4_apply, val_main_call2_call0_v11_apply, val_main_call2_call0_v1_apply,
    val_main_call2_call0_v10_apply, val_main_call2_call0_v9_apply, val_main_call2_call0_v8_apply, val_main_call2_call0_v7_apply,
    val_main_call2_call0_v3_apply, val_main_call2_v0_apply, val_main_call2_call0_v0_apply, val_main_call2_call0_v2_apply,
    val_main_call2_call0_cst_apply, val_main_v18_apply]
  generalize val_main_v8 (F := Ideal) x0 (ix4 b h t s) = z
  exact softplus_words (-z) _

/-- A fold of additions is a sum. -/
theorem foldl_add {α : Type} (g : α → EReal) (l : List α) (a : EReal) : l.foldl (fun r n => r + g n) a = a + (l.map g).sum := by
  induction l generalizing a with
  | nil => simp
  | cons x l ih => rw [List.foldl_cons, ih, List.map_cons, List.sum_cons, add_assoc]

/-- The positions of the window: only the last axis has more than one. -/
def windowEquiv : Fin 2048 ≃ (⟨4, ![1, 1, 1, 2048]⟩ : Shape).Idx where
  toFun k := ix4 0 0 0 k
  invFun w := w 3
  left_inv k := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The running sum from the end. -/
theorem window_sum (hw) (x : S16x16x2048x2048.Idx → EReal) (f : ℕ → EReal) (b h : Fin 16) (t s : Fin 2048)
    (hf : ∀ j : Fin 2048, x (ix4 b h t j) = f j.val) :
    Ideal.hostReduceWindowAdd (s := S16x16x2048x2048) ![1, 1, 1, 2048] ![1, 1, 1, 1] ![0, 0, 0, 0] ![0, 0, 0, 2047] (t := S16x16x2048x2048) hw x 0 (ix4 b h t s)
      = ∑ j ∈ Finset.Ico s.val 2048, f j := by
  unfold Ideal.hostReduceWindowAdd Host.reduceWindow
  dsimp only
  rw [foldl_add, zero_add, ← Fin.sum_univ_def]
  refine (Fintype.sum_equiv ((Shape.rowMajor _).symm.trans windowEquiv.symm) _
    (fun k : Fin 2048 => if s.val + k.val < 2048 then f (s.val + k.val) else 0) fun n => ?_).trans ?_
  · rw [Equiv.trans_apply]
    obtain ⟨k, hk⟩ := windowEquiv.surjective ((Shape.rowMajor _).symm n)
    have k0 : ((Shape.rowMajor (⟨4, ![1, 1, 1, 2048]⟩ : Shape)).symm n 0).val = 0 := congrArg (fun w => (w 0).val) hk.symm
    have k1 : ((Shape.rowMajor (⟨4, ![1, 1, 1, 2048]⟩ : Shape)).symm n 1).val = 0 := congrArg (fun w => (w 1).val) hk.symm
    have k2 : ((Shape.rowMajor (⟨4, ![1, 1, 1, 2048]⟩ : Shape)).symm n 2).val = 0 := congrArg (fun w => (w 2).val) hk.symm
    have k3 : ((Shape.rowMajor (⟨4, ![1, 1, 1, 2048]⟩ : Shape)).symm n 3).val = k.val := congrArg (fun w => (w 3).val) hk.symm
    rw [show windowEquiv.symm ((Shape.rowMajor (⟨4, ![1, 1, 1, 2048]⟩ : Shape)).symm n) = k by rw [← hk, Equiv.symm_apply_apply]]
    by_cases hc : s.val + k.val < 2048
    · rw [if_pos hc, ← hf ⟨s.val + k.val, hc⟩, dif_pos ?_]
      · refine congrArg x (funext fun a => ?_)
        match a with
        | ⟨0, _⟩ => exact Fin.ext (show b.val * 1 + ((Shape.rowMajor (⟨4, ![1, 1, 1, 2048]⟩ : Shape)).symm n 0).val - 0 = b.val by omega)
        | ⟨1, _⟩ => exact Fin.ext (show h.val * 1 + ((Shape.rowMajor (⟨4, ![1, 1, 1, 2048]⟩ : Shape)).symm n 1).val - 0 = h.val by omega)
        | ⟨2, _⟩ => exact Fin.ext (show t.val * 1 + ((Shape.rowMajor (⟨4, ![1, 1, 1, 2048]⟩ : Shape)).symm n 2).val - 0 = t.val by omega)
        | ⟨3, _⟩ => exact Fin.ext (show s.val * 1 + ((Shape.rowMajor (⟨4, ![1, 1, 1, 2048]⟩ : Shape)).symm n 3).val - 0 = s.val + k.val by omega)
      · intro a
        match a with
        | ⟨0, _⟩ => exact (show 0 ≤ b.val * 1 + ((Shape.rowMajor (⟨4, ![1, 1, 1, 2048]⟩ : Shape)).symm n 0).val ∧ b.val * 1 + ((Shape.rowMajor (⟨4, ![1, 1, 1, 2048]⟩ : Shape)).symm n 0).val - 0 < 16 by omega)
        | ⟨1, _⟩ => exact (show 0 ≤ h.val * 1 + ((Shape.rowMajor (⟨4, ![1, 1, 1, 2048]⟩ : Shape)).symm n 1).val ∧ h.val * 1 + ((Shape.rowMajor (⟨4, ![1, 1, 1, 2048]⟩ : Shape)).symm n 1).val - 0 < 16 by omega)
        | ⟨2, _⟩ => exact (show 0 ≤ t.val * 1 + ((Shape.rowMajor (⟨4, ![1, 1, 1, 2048]⟩ : Shape)).symm n 2).val ∧ t.val * 1 + ((Shape.rowMajor (⟨4, ![1, 1, 1, 2048]⟩ : Shape)).symm n 2).val - 0 < 2048 by omega)
        | ⟨3, _⟩ => exact (show 0 ≤ s.val * 1 + ((Shape.rowMajor (⟨4, ![1, 1, 1, 2048]⟩ : Shape)).symm n 3).val ∧ s.val * 1 + ((Shape.rowMajor (⟨4, ![1, 1, 1, 2048]⟩ : Shape)).symm n 3).val - 0 < 2048 by omega)
    · rw [if_neg hc, dif_neg ?_]
      intro hin
      have h3 : 0 ≤ s.val * 1 + ((Shape.rowMajor (⟨4, ![1, 1, 1, 2048]⟩ : Shape)).symm n 3).val ∧ s.val * 1 + ((Shape.rowMajor (⟨4, ![1, 1, 1, 2048]⟩ : Shape)).symm n 3).val - 0 < 2048 := hin 3
      omega
  · rw [← Finset.sum_range (fun k => if s.val + k < 2048 then f (s.val + k) else 0), Finset.sum_Ico_eq_sum_range]
    symm
    refine Finset.sum_subset_zero_on_sdiff (fun j hj => ?_) (fun j hj => ?_) fun j hj => ?_
    · rw [Finset.mem_range] at hj ⊢
      omega
    · rw [Finset.mem_sdiff, Finset.mem_range, Finset.mem_range] at hj
      rw [if_neg (by omega)]
    · rw [Finset.mem_range] at hj
      rw [if_pos (by omega)]

variable (x0 : Vec Ideal S16x2048x3072 .bf16) (b h : Fin 16) (t : Fin 2048)

/-- The masked logarithms, with real logits. -/
theorem log_beta_at (hz : ∀ s, IsReal (zAt x0 b h t s)) (s : Fin 2048) :
    val_main_v17 (F := Ideal) x0 (ix4 b h t s) = lbM (zAt x0 b h t) t.val s.val := by
  have e : val_main_v17 (F := Ideal) x0 (ix4 b h t s)
      = Scalar.select (val_main_v15 (F := Ideal) (ix2 t s)) (val_main_v16 (F := Ideal) x0 (ix4 b h t s)) (Ideal.ofBits .f32 0xFF800000#32) := by
    rw [val_main_v17_apply, val_main_call1_v1_apply, val_main_call1_v2_apply, val_main_call1_v0_apply, val_main_cst_apply]
    refine congrArg₂ (fun u w => Scalar.select (val_main_v15 (F := Ideal) u) w (Ideal.ofBits .f32 0xFF800000#32)) ?_ rfl
    funext a
    match a with | ⟨0, _⟩ => rfl | ⟨1, _⟩ => rfl
  rw [e, select_causal, logSig_at, logit_at, logSig_eq (hz _), ofBits_bot]
  rfl

theorem log_1m_at (hz : ∀ s, IsReal (zAt x0 b h t s)) (s : Fin 2048) :
    val_main_v20 (F := Ideal) x0 (ix4 b h t s) = l1M (zAt x0 b h t) t.val s.val := by
  have e : val_main_v20 (F := Ideal) x0 (ix4 b h t s)
      = Scalar.select (val_main_v15 (F := Ideal) (ix2 t s)) (val_main_v19 (F := Ideal) x0 (ix4 b h t s)) (Ideal.ofBits .f32 0x00000000#32) := by
    rw [val_main_v20_apply, val_main_call3_v1_apply, val_main_call3_v2_apply, val_main_call3_v0_apply, val_main_cst_0_apply]
    refine congrArg₂ (fun u w => Scalar.select (val_main_v15 (F := Ideal) u) w (Ideal.ofBits .f32 0x00000000#32)) ?_ rfl
    funext a
    match a with | ⟨0, _⟩ => rfl | ⟨1, _⟩ => rfl
  rw [e, select_causal, logSig_neg_at, logit_at, logSig_neg (hz _), ofBits_zero]
  rfl

theorem sum_at (hz : ∀ s, IsReal (zAt x0 b h t s)) (s : Fin 2048) :
    val_main_v21 (F := Ideal) x0 (ix4 b h t s) = tail (zAt x0 b h t) t.val s.val := by
  unfold val_main_v21
  have e : val_main_call4_v0 (F := Ideal) (Shape.Idx.first h_S_) = (0 : EReal) := by
    rw [val_main_call4_v0_apply, val_main_call4_cst_apply]
    exact ofBits_zero
  unfold Host.reduceWindowAdd
  rw [e, Ideal.hostReduceWindowAdd_def]
  exact window_sum _ _ (l1M (zAt x0 b h t) t.val) b h t s (log_1m_at x0 b h t hz)

/-- The weights. -/
theorem weight_at (hz : ∀ s, IsReal (zAt x0 b h t s)) (s : Fin 2048) :
    val_main_v24 (F := Ideal) x0 (ix4 b h t s) = weight (zAt x0 b h t) t.val s.val := by
  rw [val_main_v24_apply, val_main_v23_apply, val_main_v22_apply, sum_at x0 b h t hz, log_beta_at x0 b h t hz, log_1m_at x0 b h t hz]
  have e : tail (zAt x0 b h t) t.val s.val - l1M (zAt x0 b h t) t.val s.val = tail (zAt x0 b h t) t.val (s.val + 1) := by
    unfold tail
    rw [Finset.sum_eq_sum_Ico_succ_bot s.isLt]
    exact add_sub_cancel_real (l1M_real _ hz _ _) (isReal_sum_finset _ fun i => l1M_real _ hz _ i)
  show Ideal.exp (lbM _ _ _ + (tail _ _ _ - l1M _ _ _)) = _
  rw [e]
  rfl

/-- The result at an index. -/
theorem ref_at (n : Fin 1024) (hz : ∀ s, IsReal (zAt x0 b ⟨n.val / 64, by omega⟩ t s)) :
    val_main_v28 (F := Ideal) x0 (ix3 b t n)
      = acc (zAt x0 b ⟨n.val / 64, by omega⟩ t) (vAt x0 b ⟨2048 + n.val, by omega⟩) t.val 0 := by
  have e : val_main_v28 (F := Ideal) x0 (ix3 b t n)
      = val_main_v25 (F := Ideal) x0 (ix4 b (⟨n.val / 64, by omega⟩ : Fin 16) (⟨n.val % 64, by omega⟩ : Fin 64) t) := by
    rw [val_main_v28_apply, val_main_v27_apply, val_main_v26_apply]
    refine congrArg (val_main_v25 (F := Ideal) x0) (funext fun a => ?_)
    match a with
    | ⟨0, _⟩ => refine Fin.ext ?_; show ((b.val * 2048 + t.val) * 1024 + n.val) / 2097152 = b.val; omega
    | ⟨1, _⟩ => refine Fin.ext ?_; show ((b.val * 2048 + t.val) * 1024 + n.val) / 64 % 16 = n.val / 64; omega
    | ⟨2, _⟩ => refine Fin.ext ?_; show ((b.val * 2048 + t.val) * 1024 + n.val) % 64 = n.val % 64; omega
    | ⟨3, _⟩ => refine Fin.ext ?_; show ((b.val * 2048 + t.val) * 1024 + n.val) / 1024 % 2048 = t.val; omega
  rw [e, val_main_v25_apply]
  unfold acc
  rw [← Finset.range_eq_Ico, Finset.sum_range]
  refine Finset.sum_congr rfl fun s _ => ?_
  rw [mul_comm]
  refine congrArg₂ (· * ·) (Eq.trans (congrArg (val_main_v24 (F := Ideal) x0) ?_) (weight_at x0 b ⟨n.val / 64, by omega⟩ t hz s))
    (Eq.trans (congrArg (val_main_v7 (F := Ideal) x0) ?_) ((value_at x0 b s ⟨n.val / 64, by omega⟩ ⟨n.val % 64, by omega⟩).trans ?_))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl
  · unfold vAt colOf
    rw [dif_pos s.isLt]
    refine congrArg (fun z => x0 (ix3 b s z)) (Fin.ext ?_)
    dsimp only
    omega

/-- With real queries and keys the logits are real. -/
theorem zAt_real (h0 : ∀ (b : Fin 16) (s : Fin 2048) (col : Fin 3072), col.val < 2048 → IsReal (x0 (ix3 b s col))) (s : ℕ) :
    IsReal (zAt x0 b h t s) := by
  unfold zAt
  split
  · refine IsReal.sum fun d => IsReal.mul (h0 _ _ _ ?_) (h0 _ _ _ ?_)
    · unfold colOf; dsimp only; omega
    · unfold colOf; dsimp only; omega
  · exact isReal_zero

end Cert.StickRefIdeal.Spec
end
-- ==== Proof.StickValue.lean ====
module

public import proofs.«01_k».proof.Proof.StickKernel
public import proofs.«01_k».proof.Proof.StickRef

/-!
# The stick-breaking attention's result array

The blocks of a grid point are read off the projections, one head's lanes of a product are the head's columns, and so every
block of the result holds the reference's entries.
-/

@[expose] public section

set_option maxRecDepth 16384

noncomputable section

open Idealize.ShloMosaic Idealize.ShloMosaic.TcCoe Idealize.SL.Sem
open Idealize.ShloMosaic.Pipeline (Dat)

namespace Cert.StickIdeal.Val
open Cert.StickIdeal Cert.StickIdeal.Gen Cert.Stk Cert.Finite
open Cert.StickRefIdeal.Spec (zAt vAt colOf)

/-- A product masked to one head's 64 columns is the product over these columns. -/
theorem lane_sum (f g : Fin 128 → EReal) (h : Fin 2) :
    ∑ l : Fin 128, f l * headMask h l * g l
      = ∑ d : Fin 64, f ⟨64 * h.val + d.val, by omega⟩ * g ⟨64 * h.val + d.val, by omega⟩ := by
  symm
  refine Fintype.sum_of_injective (fun d : Fin 64 => (⟨64 * h.val + d.val, by omega⟩ : Fin 128)) ?_ _ _ ?_ ?_
  · intro a b e
    have := Fin.val_eq_of_eq e
    exact Fin.ext (by dsimp only at this; omega)
  · intro l hl
    have hn : ¬ l.val / 64 = h.val := fun e => hl ⟨⟨l.val % 64, by omega⟩, Fin.ext (by dsimp only; omega)⟩
    unfold headMask
    rw [if_neg hn, mul_zero, zero_mul]
  · intro d
    have hy : (64 * h.val + d.val) / 64 = h.val := by omega
    unfold headMask
    dsimp only
    rw [if_pos hy, mul_one]

variable (m : (ℓ : Loc nD τ sig) → Buf (Elt Ideal) ℓ)

/-- The batch entry of point `t`, and the heads of its pair. -/
def batchOf (t : Fin cfg0.N) : Fin 16 := ⟨t.val / 8, by have : t.val < 128 := t.isLt; omega⟩
def headOf (t : Fin cfg0.N) (h : Fin 2) : Fin 16 := ⟨2 * (t.val % 8) + h.val, by omega⟩

/-- The projections, as an array of extended reals. -/
abbrev argX (c : Dev nD) : Vec Ideal Cert.StickRefIdeal.S16x2048x3072 .bf16 := m ((c : Thread nD τ).loc main_arg0)

/-- The block index of each window at a point. -/
theorem idx : ∀ t : Fin cfg0.N, win0_0.index t = ![t.val / 8, 0, t.val % 8] ∧ win0_1.index t = ![t.val / 8, 0, t.val % 8 + 8]
    ∧ win0_2.index t = ![t.val / 8, 0, t.val % 8 + 16] ∧ win0_3.index t = ![t.val / 8, 0, t.val % 8] := by decide +kernel

theorem block0_at (c : Dev nD) (t : Fin cfg0.N) (s : Fin 2048) (l : Fin 128) :
    iblk m c 0 t (ix3 0 s l) = argX m c (ix3 (batchOf t) s ⟨128 * (t.val % 8) + l.val, by omega⟩) := by
  blk_ext [iblk, V, idx t, batchOf]

theorem block1_at (c : Dev nD) (t : Fin cfg0.N) (s : Fin 2048) (l : Fin 128) :
    iblk m c 1 t (ix3 0 s l) = argX m c (ix3 (batchOf t) s ⟨1024 + 128 * (t.val % 8) + l.val, by omega⟩) := by
  blk_ext [iblk, V, idx t, batchOf]

theorem block2_at (c : Dev nD) (t : Fin cfg0.N) (s : Fin 2048) (l : Fin 128) :
    iblk m c 2 t (ix3 0 s l) = argX m c (ix3 (batchOf t) s ⟨2048 + 128 * (t.val % 8) + l.val, by omega⟩) := by
  blk_ext [iblk, V, idx t, batchOf]

/-- A query of trip `k`. -/
theorem queryWin_at (c : Dev nD) (t : Fin cfg0.N) (k : Fin k0_t1_loop.trips) (r : Fin 128) (l : Fin 128) :
    qWin (iblk m c 0 t) k (ix3 0 r l)
      = argX m c (ix3 (batchOf t) ⟨128 * k.val + r.val, by have := trip_lt k; omega⟩ ⟨128 * (t.val % 8) + l.val, by omega⟩) :=
  block0_at m c t _ l

/-- A row of the kernel's logits is the reference's. -/
theorem logits_eq (c : Dev nD) (t : Fin cfg0.N) (h : Fin 2) (k : Fin k0_t1_loop.trips) (r : Fin 128) :
    zHead (iblk m c 0 t) (iblk m c 1 t) h k r
      = zAt (argX m c) (batchOf t) (headOf t h) ⟨128 * k.val + r.val, by have := trip_lt k; omega⟩ := by
  have hk := trip_lt k
  funext s
  unfold zHead zAt
  by_cases hs : s < 2048
  · rw [dif_pos hs, dif_pos hs]
    refine (lane_sum (fun l => qWin (iblk m c 0 t) k (ix3 0 r l)) (fun l => iblk m c 1 t (ix3 0 ⟨s, hs⟩ l)) h).trans ?_
    refine Finset.sum_congr rfl fun d _ => ?_
    rw [queryWin_at, block1_at]
    refine congrArg₂ (· * ·) (congrArg (fun z => argX m c (ix3 _ _ z)) (Fin.ext ?_)) (congrArg (fun z => argX m c (ix3 _ _ z)) (Fin.ext ?_))
    · unfold colOf headOf; dsimp only; omega
    · unfold colOf headOf; dsimp only; omega
  · rw [dif_neg hs, dif_neg hs]

/-- A lane of the values is a column of the projections. -/
theorem values_eq (c : Dev nD) (t : Fin cfg0.N) (n : Fin 128) :
    vCol (iblk m c 2 t) n = vAt (argX m c) (batchOf t) ⟨2048 + (128 * (t.val % 8) + n.val), by omega⟩ := by
  funext s
  unfold vCol vAt
  by_cases hs : s < 2048
  · rw [dif_pos hs, dif_pos hs, block2_at]
    refine congrArg (fun z => argX m c (ix3 _ _ z)) (Fin.ext ?_)
    dsimp only
    omega
  · rw [dif_neg hs, dif_neg hs]

/-- One entry of a trip's result is the reference's. -/
theorem entry_at (c : Dev nD) (t : Fin cfg0.N) (k : Fin k0_t1_loop.trips) (r : Fin 128) (n : Fin 128)
    (h0 : ∀ (b : Fin 16) (s : Fin 2048) (col : Fin 3072), col.val < 2048 → IsReal (argX m c (ix3 b s col))) :
    tripOut (iblk m c 0 t) (iblk m c 1 t) (iblk m c 2 t) k (ix3 0 r n)
      = Cert.StickRefIdeal.Read.val_main_v28 (F := Ideal) (argX m c)
          (ix3 (batchOf t) ⟨128 * k.val + r.val, by have := trip_lt k; omega⟩ ⟨128 * (t.val % 8) + n.val, by omega⟩) := by
  have hk := trip_lt k
  have hz : ∀ (h : Fin 2) (s : ℕ), IsReal (zHead (iblk m c 0 t) (iblk m c 1 t) h k r s) := fun h s => by
    rw [logits_eq]
    exact Cert.StickRefIdeal.Spec.zAt_real _ _ _ _ h0 s
  have eh : (⟨(128 * (t.val % 8) + n.val) / 64, by omega⟩ : Fin 16) = headOf t ⟨n.val / 64, by omega⟩ :=
    Fin.ext (by unfold headOf; dsimp only; omega)
  rw [trip_at _ _ _ k r n ⟨n.val / 64, by omega⟩ rfl hz,
    Cert.StickRefIdeal.Spec.ref_at _ _ _ _ fun s => Cert.StickRefIdeal.Spec.zAt_real _ _ _ _ h0 s]
  rw [logits_eq, values_eq, eh]

/-- What point `t` leaves at `y` is the reference at the array position `y` sits at. -/
theorem point (c : Dev nD) (h0 : ∀ (b : Fin 16) (s : Fin 2048) (col : Fin 3072), col.val < 2048 → IsReal (argX m c (ix3 b s col)))
    (t : Fin cfg0.N) (y : S1x2048x128.Idx) :
    outsAt0 m c t y = Cert.StickRefIdeal.Read.val_main_v28 (F := Ideal) (argX m c) (((cfg0.win 3).blk t).view.emb y) := by
  idx_vars y
  have hy0 : y0 = 0 := Subsingleton.elim _ _
  subst hy0
  have he : ((cfg0.win 3).blk t).view.emb (ix3 0 y1 y2)
      = (ix3 (batchOf t) ⟨128 * (y1.val / 128) + y1.val % 128, by omega⟩ ⟨128 * (t.val % 8) + y2.val, by omega⟩ : Cert.StickRefIdeal.S16x2048x1024.Idx) := by
    have e1 : (⟨128 * (y1.val / 128) + y1.val % 128, by omega⟩ : Fin 2048) = y1 := Fin.ext (by dsimp only; omega)
    rw [e1]
    blk_ext [idx t, batchOf]
  rw [he, out_at]
  exact entry_at m c t ⟨y1.val / 128, by show _ < 16; omega⟩ ⟨y1.val % 128, by omega⟩ y2 h0

/-- The result array after the run is the reference's result over the same argument. -/
theorem final (c : Dev nD) (h0 : ∀ (b : Fin 16) (s : Fin 2048) (col : Fin 3072), col.val < 2048 → IsReal (argX m c (ix3 b s col))) :
    (dats m 0 c).arrAt 3 (cfgs 0).N = Cert.StickRefIdeal.Read.val_main_v28 (F := Ideal) (argX m c) := by
  refine (dats m 0 c).arrAt_eq_of_covers 3 _ (by decide +kernel) fun t _ y => ?_
  blk_simp
  rw [after0_3]
  exact point m c h0 t y

end Cert.StickIdeal.Val
end
-- ==== Proof.lean ====
/- The certificate of the layer's kernels: for each pallas_call its frames and its value claim. The mathematics of each
   value claim is in a module of its own under proof/Proof/; here the runs are put beside one another. -/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.Qkv.Frame
public import proofs.«01_k».proof.Proof.Gen.QkvIdeal.Frame
public import proofs.«01_k».proof.Proof.Gen.QkvRefIdeal.Run
public import proofs.«01_k».proof.Proof.Gen.QkvRefIdeal.Read
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.Gen.Band.Frame
public import proofs.«01_k».proof.Proof.Gen.BandIdeal.Frame
public import proofs.«01_k».proof.Proof.Gen.BandRefIdeal.Run
public import proofs.«01_k».proof.Proof.Gen.BandRefIdeal.Read
public import proofs.«01_k».proof.Proof.Gen.BandIdeal.Value
public import proofs.«01_k».proof.Proof.Gen.Stick.Frame
public import proofs.«01_k».proof.Proof.Gen.StickIdeal.Frame
public import proofs.«01_k».proof.Proof.Gen.StickIdeal.Loops
public import proofs.«01_k».proof.Proof.Gen.Stick.Loops
public import proofs.«01_k».proof.Proof.Gen.StickRefIdeal.Run
public import proofs.«01_k».proof.Proof.Gen.StickRefIdeal.Read
public import proofs.«01_k».proof.Proof.FfnValue
public import proofs.«01_k».proof.Proof.QkvValue
public import proofs.«01_k».proof.Proof.ProjValue
public import proofs.«01_k».proof.Proof.BandValue
public import proofs.«01_k».proof.Proof.StickRun
public import proofs.«01_k».proof.Proof.StickIdealRun
public import proofs.«01_k».proof.Proof.StickValue
public import Idealize.ShloMosaic.Lib.Claim
public import Idealize.ShloMosaic.Adequacy
public import Idealize.ShloMosaic.Init

@[expose] public section

noncomputable section

namespace Cert.Proof

open Idealize.ShloMosaic Idealize.SL.Sem

/-- The value claim of the feed-forward half step. -/
theorem value_Ffn : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    obtain ⟨h0, h1, h2, h3, h4, h5⟩ := hagree c
    rw [Cert.FfnRefIdeal.Read.val_main_v33_eq, h0, h1, h2, h3, h4, h5]
    exact (Cert.FfnIdeal.Val.final m c).symm

/-- The value claim of the query/key/value projection. -/
theorem value_Qkv : Cert.algebraic_QkvIdeal_QkvRefIdeal (hQkvIdeal := Cert.QkvIdeal.Gen.facts) (hQkvRefIdeal := Cert.QkvRefIdeal.Gen.facts) := by
  pair_intro
  · run_from Cert.QkvIdeal.Gen.run_main m g
  · run_from Cert.QkvRefIdeal.Value.run m' g'
    exact (Cert.QkvIdeal.Val.final m c).symm

/-- The value claim of the output projection with residual and norm. -/
theorem value_Proj : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · run_from Cert.ProjRefIdeal.Value.run m' g'
    exact (Cert.ProjIdeal.Val.final m c).symm

/-- The value claim of the banded attention, of finite arguments. -/
theorem value_Band : Cert.algebraic_BandIdeal_BandRefIdeal_pre_band_finite (hBandIdeal := Cert.BandIdeal.Gen.facts)
    (hBandRefIdeal := Cert.BandRefIdeal.Gen.facts) (hPre_band_finite := Cert.Finite.facts) := by
  pair_intro
  · run_from Cert.BandIdeal.Gen.run_main m g
    exact Cert.BandIdeal.Gen.V_main_arg1 m c
  · run_from Cert.BandRefIdeal.Value.run m' g'
    obtain ⟨h0, h1⟩ := hagree c
    rw [Cert.BandRefIdeal.Read.val_main_v78_eq, h0, h1]
    obtain ⟨f0, f1⟩ := @Cert.Finite.of_pre Cert.Finite.facts _ _ (hpre c)
    exact (Cert.BandIdeal.Val.final m c f0 f1).symm

/-- The value claim of the stick-breaking attention, of finite queries and keys. -/
theorem value_Stick : Cert.algebraic_StickIdeal_StickRefIdeal_pre_stick_finite (hStickIdeal := Cert.StickIdeal.Gen.facts)
    (hStickRefIdeal := Cert.StickRefIdeal.Gen.facts) (hPre_stick_finite := Cert.Finite.stickFacts) := by
  pair_intro
  · run_from Cert.StickIdeal.Gen.run_main m g
  · run_from Cert.StickRefIdeal.Value.run m' g'
    rw [Cert.StickRefIdeal.Read.val_main_v28_eq, hagree c]
    have f0 := @Cert.Finite.of_stickPre Cert.Finite.stickFacts _ (hpre c)
    exact (Cert.StickIdeal.Val.final m c f0).symm

/-- The reference of the `Ffn` call runs and leaves its arguments; it declares no semaphore. -/
theorem frame_FfnRef : Cert.quiescent_FfnRefIdeal (hFfnRefIdeal := Cert.FfnRefIdeal.Gen.facts) := fun m g _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m g)

/-- The reference of the `Qkv` call runs and leaves its arguments; it declares no semaphore. -/
theorem frame_QkvRef : Cert.quiescent_QkvRefIdeal (hQkvRefIdeal := Cert.QkvRefIdeal.Gen.facts) := fun m g _ =>
  (θ_run Cert.QkvRefIdeal.defs _ _).mono
    (fun r h => ⟨fun c => (h c).2, Idealize.ShloMosaic.sem_eq_zero_of_no_sems (by decide) r.2⟩)
    (Cert.QkvRefIdeal.Value.run (F := Ideal) m g)

/-- The reference of the `Proj` call runs and leaves its arguments; it declares no semaphore. -/
theorem frame_ProjRef : Cert.quiescent_ProjRefIdeal (hProjRefIdeal := Cert.ProjRefIdeal.Gen.facts) := fun m g _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m g)

/-- The reference of the `Band` call runs and leaves its arguments; it declares no semaphore. -/
theorem frame_BandRef : Cert.quiescent_BandRefIdeal (hBandRefIdeal := Cert.BandRefIdeal.Gen.facts) := fun m g _ =>
  (θ_run Cert.BandRefIdeal.defs _ _).mono
    (fun r h => ⟨fun c => (h c).2, Idealize.ShloMosaic.sem_eq_zero_of_no_sems (by decide) r.2⟩)
    (Cert.BandRefIdeal.Value.run (F := Ideal) m g)

/-- The reference of the `Stick` call runs and leaves its argument; it declares no semaphore. -/
theorem frame_StickRef : Cert.quiescent_StickRefIdeal (hStickRefIdeal := Cert.StickRefIdeal.Gen.facts) := fun m g _ =>
  (θ_run Cert.StickRefIdeal.defs _ _).mono
    (fun r h => ⟨fun c => (h c).2, Idealize.ShloMosaic.sem_eq_zero_of_no_sems (by decide) r.2⟩)
    (Cert.StickRefIdeal.Value.run (F := Ideal) m g)

theorem claim : Cert.Claim :=
  ⟨Cert.Ffn.Gen.facts, Cert.FfnIdeal.Gen.facts, Cert.FfnRefIdeal.Gen.facts, Cert.Qkv.Gen.facts, Cert.QkvIdeal.Gen.facts, Cert.QkvRefIdeal.Gen.facts, Cert.Proj.Gen.facts, Cert.ProjIdeal.Gen.facts, Cert.ProjRefIdeal.Gen.facts, Cert.Band.Gen.facts, Cert.BandIdeal.Gen.facts, Cert.BandRefIdeal.Gen.facts, Cert.Stick.Gen.facts, Cert.StickIdeal.Gen.facts, Cert.StickRefIdeal.Gen.facts, Cert.Finite.facts, Cert.Finite.stickFacts,
    fun m g _ => Cert.Ffn.Gen.frame m g,
    fun m g _ => Cert.FfnIdeal.Gen.frame m g,
    frame_FfnRef,
    fun m g _ => Cert.Qkv.Gen.frame m g,
    fun m g _ => Cert.QkvIdeal.Gen.frame m g,
    frame_QkvRef,
    fun m g _ => Cert.Proj.Gen.frame m g,
    fun m g _ => Cert.ProjIdeal.Gen.frame m g,
    frame_ProjRef,
    fun m g _ => Cert.Band.Gen.frame m g,
    fun m g _ => Cert.BandIdeal.Gen.frame m g,
    fun m g _ => Cert.BandIdeal.Gen.frame m g,
    frame_BandRef,
    fun m g _ => frame_BandRef m g trivial,
    fun m g _ => Cert.Stick.Gen.frame m g,
    fun m g _ => Cert.StickIdeal.Gen.frame m g,
    fun m g _ => Cert.StickIdeal.Gen.frame m g,
    frame_StickRef,
    fun m g _ => frame_StickRef m g trivial,
    trivial, value_Ffn, trivial, value_Qkv, trivial, value_Proj, trivial, value_Band, trivial, value_Stick⟩

end Cert.Proof

end
